-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2684354 : Shape := ⟨2, ![2, 2684354]⟩
abbrev S2684354 : Shape := ⟨1, ![2684354]⟩
abbrev S1x2684354 : Shape := ⟨2, ![1, 2684354]⟩
abbrev S1x65536 : Shape := ⟨2, ![1, 65536]⟩

abbrev nBuf : Space → Nat
  | .hbm => 5
  | .vmem => 4
  | .smem => 0
  | _ => 0

abbrev bufTy : (tb : Table) → Fin (tcTables nBuf tb) → BufTy
  | .hbm, ⟨0, _⟩ => ⟨S2x2684354, .i32⟩
  | .hbm, ⟨1, _⟩ => ⟨S2684354, .f32⟩
  | .hbm, ⟨2, _⟩ => ⟨S1x2684354, .f32⟩
  | .hbm, ⟨3, _⟩ => ⟨S1x2684354, .f32⟩
  | .hbm, ⟨4, _⟩ => ⟨S2684354, .f32⟩
  | .local _ .vmem, ⟨0, _⟩ => ⟨S1x65536, .f32⟩
  | .local _ .vmem, ⟨1, _⟩ => ⟨S1x65536, .f32⟩
  | .local _ .vmem, ⟨2, _⟩ => ⟨S1x65536, .f32⟩
  | .local _ .vmem, ⟨3, _⟩ => ⟨S1x65536, .f32⟩
  | _, _ => ⟨S2x2684354, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x2684354 : Shape := ⟨2, ![2, 2684354]⟩
abbrev S2684354 : Shape := ⟨1, ![2684354]⟩
abbrev S_ : Shape := ⟨0, ![]⟩
abbrev S1 : Shape := ⟨1, ![1]⟩
abbrev S2 : Shape := ⟨1, ![2]⟩

abbrev nBuf : Space → Nat
  | .hbm => 280
  | .vmem => 0
  | .smem => 0
  | _ => 0

abbrev hbmTy0_0 (i : Nat) : BufTy := match i % 128 with
  | 0 => ⟨S2x2684354, .i32⟩
  | 1 => ⟨S2684354, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S2684354, .i64⟩
  | 23 => ⟨S_, .i64⟩
  | 24 => ⟨S2684354, .i64⟩
  | 25 => ⟨S2684354, .i64⟩
  | 26 => ⟨S_, .i64⟩
  | 27 => ⟨S2684354, .i64⟩
  | 28 => ⟨S2684354, .i64⟩
  | 29 => ⟨S2684354, .i32⟩
  | 30 => ⟨S2684354, .i32⟩
  | 31 => ⟨S_, .i32⟩
  | 32 => ⟨S_, .i32⟩
  | 33 => ⟨S_, .i32⟩
  | 34 => ⟨S2684354, .i32⟩
  | 35 => ⟨S2684354, .i32⟩
  | 36 => ⟨S2684354, .i32⟩
  | 37 => ⟨S2684354, .i32⟩
  | 38 => ⟨S2684354, .i32⟩
  | 39 => ⟨S_, .i32⟩
  | 40 => ⟨S2684354, .i32⟩
  | 41 => ⟨S2684354, .i32⟩
  | 42 => ⟨S_, .i32⟩
  | 43 => ⟨S2684354, .i32⟩
  | 44 => ⟨S2684354, .i32⟩
  | 45 => ⟨S2684354, .i32⟩
  | 46 => ⟨S2684354, .i32⟩
  | 47 => ⟨S2684354, .i32⟩
  | 48 => ⟨S_, .i32⟩
  | 49 => ⟨S2684354, .i32⟩
  | 50 => ⟨S2684354, .i32⟩
  | 51 => ⟨S_, .i32⟩
  | 52 => ⟨S2684354, .i32⟩
  | 53 => ⟨S2684354, .i32⟩
  | 54 => ⟨S2684354, .i32⟩
  | 55 => ⟨S2684354, .i32⟩
  | 56 => ⟨S2684354, .i32⟩
  | 57 => ⟨S_, .i32⟩
  | 58 => ⟨S2684354, .i32⟩
  | 59 => ⟨S2684354, .i32⟩
  | 60 => ⟨S_, .i32⟩
  | 61 => ⟨S2684354, .i32⟩
  | 62 => ⟨S2684354, .i32⟩
  | 63 => ⟨S2684354, .i32⟩
  | 64 => ⟨S2684354, .i32⟩
  | 65 => ⟨S2684354, .i32⟩
  | 66 => ⟨S_, .i32⟩
  | 67 => ⟨S2684354, .i32⟩
  | 68 => ⟨S2684354, .i32⟩
  | 69 => ⟨S_, .i32⟩
  | 70 => ⟨S2684354, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S_, .i32⟩
  | 79 => ⟨S2684354, .i32⟩
  | 80 => ⟨S2684354, .i32⟩
  | 81 => ⟨S2684354, .i32⟩
  | 82 => ⟨S_, .i32⟩
  | 83 => ⟨S2684354, .i32⟩
  | 84 => ⟨S2684354, .i32⟩
  | 85 => ⟨S_, .i32⟩
  | 86 => ⟨S2684354, .i32⟩
  | 87 => ⟨S2684354, .i32⟩
  | 88 => ⟨S2684354, .i32⟩
  | 89 => ⟨S2684354, .i32⟩
  | 90 => ⟨S2684354, .i32⟩
  | 91 => ⟨S_, .i32⟩
  | 92 => ⟨S2684354, .i32⟩
  | 93 => ⟨S2684354, .i32⟩
  | 94 => ⟨S_, .i32⟩
  | 95 => ⟨S2684354, .i32⟩
  | 96 => ⟨S2684354, .i32⟩
  | 97 => ⟨S2684354, .i32⟩
  | 98 => ⟨S2684354, .i32⟩
  | 99 => ⟨S2684354, .i32⟩
  | 100 => ⟨S_, .i32⟩
  | 101 => ⟨S2684354, .i32⟩
  | 102 => ⟨S2684354, .i32⟩
  | 103 => ⟨S_, .i32⟩
  | 104 => ⟨S2684354, .i32⟩
  | 105 => ⟨S2684354, .i32⟩
  | 106 => ⟨S2684354, .i32⟩
  | 107 => ⟨S2684354, .i32⟩
  | 108 => ⟨S2684354, .i32⟩
  | 109 => ⟨S_, .i32⟩
  | 110 => ⟨S2684354, .i32⟩
  | 111 => ⟨S2684354, .i32⟩
  | 112 => ⟨S_, .i32⟩
  | 113 => ⟨S2684354, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S_, .i32⟩
  | 122 => ⟨S2684354, .i32⟩
  | 123 => ⟨S2684354, .i32⟩
  | 124 => ⟨S2684354, .i32⟩
  | 125 => ⟨S_, .i32⟩
  | 126 => ⟨S2684354, .i32⟩
  | 127 => ⟨S2684354, .i32⟩
  | _ => ⟨S2x2684354, .i32⟩

abbrev hbmTy0_1 (i : Nat) : BufTy := match i % 128 with
  | 0 => ⟨S_, .i32⟩
  | 1 => ⟨S2684354, .i32⟩
  | 2 => ⟨S2684354, .i32⟩
  | 3 => ⟨S2684354, .i32⟩
  | 4 => ⟨S2684354, .i32⟩
  | 5 => ⟨S2684354, .i32⟩
  | 6 => ⟨S_, .i32⟩
  | 7 => ⟨S2684354, .i32⟩
  | 8 => ⟨S2684354, .i32⟩
  | 9 => ⟨S_, .i32⟩
  | 10 => ⟨S2684354, .i32⟩
  | 11 => ⟨S2684354, .i32⟩
  | 12 => ⟨S2684354, .i32⟩
  | 13 => ⟨S2684354, .i32⟩
  | 14 => ⟨S2684354, .i32⟩
  | 15 => ⟨S_, .i32⟩
  | 16 => ⟨S2684354, .i32⟩
  | 17 => ⟨S2684354, .i32⟩
  | 18 => ⟨S_, .i32⟩
  | 19 => ⟨S2684354, .i32⟩
  | 20 => ⟨S2684354, .i32⟩
  | 21 => ⟨S2684354, .i32⟩
  | 22 => ⟨S2684354, .i32⟩
  | 23 => ⟨S2684354, .i32⟩
  | 24 => ⟨S_, .i32⟩
  | 25 => ⟨S2684354, .i32⟩
  | 26 => ⟨S2684354, .i32⟩
  | 27 => ⟨S_, .i32⟩
  | 28 => ⟨S2684354, .i32⟩
  | 29 => ⟨S2684354, .i32⟩
  | 30 => ⟨S2684354, .i32⟩
  | 31 => ⟨S2684354, .i32⟩
  | 32 => ⟨S2684354, .i32⟩
  | 33 => ⟨S2684354, .i32⟩
  | 34 => ⟨S2684354, .i32⟩
  | 35 => ⟨S2684354, .i32⟩
  | 36 => ⟨S_, .i32⟩
  | 37 => ⟨S2684354, .i32⟩
  | 38 => ⟨S2684354, .i32⟩
  | 39 => ⟨S2684354, .i32⟩
  | 40 => ⟨S_, .i32⟩
  | 41 => ⟨S2684354, .i32⟩
  | 42 => ⟨S2684354, .i32⟩
  | 43 => ⟨S_, .i32⟩
  | 44 => ⟨S2684354, .i32⟩
  | 45 => ⟨S2684354, .i32⟩
  | 46 => ⟨S2684354, .i32⟩
  | 47 => ⟨S2684354, .i32⟩
  | 48 => ⟨S2684354, .i32⟩
  | 49 => ⟨S_, .i32⟩
  | 50 => ⟨S2684354, .i32⟩
  | 51 => ⟨S2684354, .i32⟩
  | 52 => ⟨S_, .i32⟩
  | 53 => ⟨S2684354, .i32⟩
  | 54 => ⟨S2684354, .i32⟩
  | 55 => ⟨S2684354, .i32⟩
  | 56 => ⟨S2684354, .i32⟩
  | 57 => ⟨S2684354, .i32⟩
  | 58 => ⟨S_, .i32⟩
  | 59 => ⟨S2684354, .i32⟩
  | 60 => ⟨S2684354, .i32⟩
  | 61 => ⟨S_, .i32⟩
  | 62 => ⟨S2684354, .i32⟩
  | 63 => ⟨S2684354, .i32⟩
  | 64 => ⟨S2684354, .i32⟩
  | 65 => ⟨S2684354, .i32⟩
  | 66 => ⟨S2684354, .i32⟩
  | 67 => ⟨S_, .i32⟩
  | 68 => ⟨S2684354, .i32⟩
  | 69 => ⟨S2684354, .i32⟩
  | 70 => ⟨S_, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S2684354, .i32⟩
  | 79 => ⟨S_, .i32⟩
  | 80 => ⟨S2684354, .i32⟩
  | 81 => ⟨S2684354, .i32⟩
  | 82 => ⟨S2684354, .i32⟩
  | 83 => ⟨S_, .i32⟩
  | 84 => ⟨S2684354, .i32⟩
  | 85 => ⟨S2684354, .i32⟩
  | 86 => ⟨S_, .i32⟩
  | 87 => ⟨S2684354, .i32⟩
  | 88 => ⟨S2684354, .i32⟩
  | 89 => ⟨S2684354, .i32⟩
  | 90 => ⟨S2684354, .i32⟩
  | 91 => ⟨S2684354, .i32⟩
  | 92 => ⟨S_, .i32⟩
  | 93 => ⟨S2684354, .i32⟩
  | 94 => ⟨S2684354, .i32⟩
  | 95 => ⟨S_, .i32⟩
  | 96 => ⟨S2684354, .i32⟩
  | 97 => ⟨S2684354, .i32⟩
  | 98 => ⟨S2684354, .i32⟩
  | 99 => ⟨S2684354, .i32⟩
  | 100 => ⟨S2684354, .i32⟩
  | 101 => ⟨S_, .i32⟩
  | 102 => ⟨S2684354, .i32⟩
  | 103 => ⟨S2684354, .i32⟩
  | 104 => ⟨S_, .i32⟩
  | 105 => ⟨S2684354, .i32⟩
  | 106 => ⟨S2684354, .i32⟩
  | 107 => ⟨S2684354, .i32⟩
  | 108 => ⟨S2684354, .i32⟩
  | 109 => ⟨S2684354, .i32⟩
  | 110 => ⟨S_, .i32⟩
  | 111 => ⟨S2684354, .i32⟩
  | 112 => ⟨S2684354, .i32⟩
  | 113 => ⟨S_, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S2684354, .i32⟩
  | 122 => ⟨S_, .i32⟩
  | 123 => ⟨S2684354, .i32⟩
  | 124 => ⟨S2684354, .i32⟩
  | 125 => ⟨S2684354, .i32⟩
  | 126 => ⟨S_, .i32⟩
  | 127 => ⟨S2684354, .i32⟩
  | _ => ⟨S2x2684354, .i32⟩

abbrev hbmTy0_2 (i : Nat) : BufTy := match i % 128 with
  | 0 => ⟨S2684354, .i32⟩
  | 1 => ⟨S_, .i32⟩
  | 2 => ⟨S2684354, .i32⟩
  | 3 => ⟨S2684354, .i32⟩
  | 4 => ⟨S2684354, .f32⟩
  | 5 => ⟨S_, .f32⟩
  | 6 => ⟨S2684354, .f32⟩
  | 7 => ⟨S2684354, .f32⟩
  | 8 => ⟨S1, .f32⟩
  | 9 => ⟨S2684354, .f32⟩
  | 10 => ⟨S2684354, .f32⟩
  | 11 => ⟨S2684354, .f32⟩
  | 12 => ⟨S2684354, .f32⟩
  | 13 => ⟨S2684354, .f32⟩
  | 14 => ⟨S2684354, .f32⟩
  | 15 => ⟨S_, .f32⟩
  | 16 => ⟨S2684354, .f32⟩
  | 17 => ⟨S2684354, .f32⟩
  | 18 => ⟨S_, .f32⟩
  | 19 => ⟨S2684354, .f32⟩
  | 20 => ⟨S2684354, .i1⟩
  | 21 => ⟨S_, .f32⟩
  | 22 => ⟨S2684354, .f32⟩
  | 23 => ⟨S2684354, .f32⟩
  | _ => ⟨S2x2684354, .i32⟩

abbrev hbmTy (i : Nat) : BufTy := match i / 128 with
  | 0 => hbmTy0_0 i
  | 1 => hbmTy0_1 i
  | 2 => hbmTy0_2 i
  | _ => ⟨S2x2684354, .i32⟩

abbrev bufTy : (tb : Table) → Fin (tcTables nBuf tb) → BufTy
  | .hbm, ⟨i, _⟩ => hbmTy i
  | _, _ => ⟨S2x2684354, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_cst_3 : Ref sig .tc := ⟨.hbm, 271, rfl⟩
abbrev main_v8 : Ref sig .tc := ⟨.hbm, 272, rfl⟩
abbrev main_v9 : Ref sig .tc := ⟨.hbm, 273, rfl⟩
abbrev main_cst_4 : Ref sig .tc := ⟨.hbm, 274, rfl⟩
abbrev main_v10 : Ref sig .tc := ⟨.hbm, 275, rfl⟩
abbrev main_v11 : Ref sig .tc := ⟨.hbm, 276, rfl⟩
abbrev main_cst_5 : Ref sig .tc := ⟨.hbm, 277, rfl⟩
abbrev main_call1_v0 : Ref sig .tc := ⟨.hbm, 278, rfl⟩
abbrev main_v12 : Ref sig .tc := ⟨.hbm, 279, rfl⟩

abbrev nD : Nat := 1
abbrev τ : Topo := Topo.v7x

variable {F : FTy → Type} [FloatOps F]
-- ==== Proof.WholeAccess.lean ====
/-
  Accesses that reach a whole buffer, stated once for every memref that is a whole buffer: a load through the
  rectangle of the memref's own sizes at offset zero reads all that the memref reads, and an unmasked store through
  it leaves exactly what was stored. The kernel's body uses these two facts for its one load and one store.
-/
module

public import Idealize.ShloMosaic.Lib.Pipeline.Frame
public import Idealize.ShloMosaic.Lib.Pipeline.Value

@[expose] public section

namespace Cert.WholeAccess

open Idealize.ShloMosaic

variable {sig : RefSig} {Val : EltTy → Type} {κ : Kind} {sp : Space} {s : Shape} {e : EltTy}
  {m : Memref sig κ sp s e}

/-- A load of the whole of a memref reads what the memref reads. -/
theorem load_all {off : Fin s.rank → Nat} (ho : off = fun _ => 0) (inb : ∀ a, off a + s.size a ≤ s.size a)
    (f : m.view.ty.Contents Val) :
    m.view.readAt Val (Rect.unit (s := s) off s.size inb).toLoadRect f = m.view.read Val f :=
  View.ld_unit_zero ho inb (m.view.read Val f)

/-- After a store of `w` over the whole of a memref that is a whole buffer, the memref reads `w`. -/
theorem read_store_all (h : m.IsWhole) {off : Fin s.rank → Nat} (ho : off = fun _ => 0)
    (inb : ∀ a, off a + s.size a ≤ s.size a) (f : m.view.ty.Contents Val) (w : s.Idx → Val e) :
    m.view.read Val ((m.access (Rect.unit (s := s) off s.size inb)).write Val f w Finset.univ) = w := by
  obtain ⟨b, rfl, rfl, rfl, hm⟩ := h
  cases hm
  exact (View.read_whole b _).trans (Memref.write_access_unit_zero_univ Val b ho inb f w)

end Cert.WholeAccess
-- ==== Proof.IdealRun.lean ====
/-
  The run of the program `KernelIdeal`, for any float values: the kernel's body on one block, the contents of the
  staging buffers at every grid point, and the launch. The last of the 41 blocks overhangs the array, so its
  transfers are cut; nothing is said of the lanes past the array's end.
-/
module

public import proofs.«01_k».proof.Proof.WholeAccess
public import proofs.«01_k».proof.Proof.Gen.KernelIdeal.Skeleton
public import proofs.«01_k».proof.Proof.Gen.KernelIdeal.Frame
public import Idealize.ShloMosaic.Lib.Pipeline.Value

@[expose] public section

noncomputable section

namespace Cert.DropIdeal

open Cert.KernelIdeal Cert.KernelIdeal.Gen Cert.WholeAccess

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one block computes -/

/-- The three vectors that the first quarter of the generator's rounds hands on, at block coordinate `i`. -/
def words1 (i : grid0.Coords) : IVec S1x65536 32 × IVec S1x65536 32 × IVec S1x65536 32 :=
  (k0_pay11 i, k0_pay12 i, k0_pay13 i)

/-- The three that the second quarter hands on. -/
def words2 (i : grid0.Coords) : IVec S1x65536 32 × IVec S1x65536 32 × IVec S1x65536 32 :=
  let p := words1 i
  (k0_pay25 p.1 p.2.1 p.2.2, k0_pay26 p.1 p.2.1 p.2.2, k0_pay27 p.1 p.2.1 p.2.2)

/-- The mask of dropped lanes of block `i`. -/
def dropMask (i : grid0.Coords) : IVec S1x65536 1 :=
  let p := words2 i
  k0_pay40 (F := F) (k0_pay38 p.1 p.2.1 p.2.2) (k0_pay39 p.1 p.2.1 p.2.2)

/-- What the body stores for block `i` when its input block is `X`: zero on the dropped lanes, `X` elsewhere. -/
def outBlock (i : grid0.Coords) (X : S1x65536.Idx → Elt F .f32) : S1x65536.Idx → Elt F .f32 :=
  k0_pay1 (dropMask (F := F) i) X

/-- Each lane of the stored block is chosen between zero and the same lane of the input block. -/
theorem outBlock_apply (i : grid0.Coords) (X : S1x65536.Idx → Elt F .f32) (j : S1x65536.Idx) :
    outBlock i X j = if dropMask (F := F) i j = 1#1 then Scalar.ofBits .f32 0#32 else X j := by
  have h : outBlock i X = select (dropMask (F := F) i) (broadcast S1x65536 (Scalar.ofBits .f32 0#32))
      (shapeCast S1x65536 X shapeCasts_S1x65536_S1x65536) := rfl
  rw [h, shapeCast_self]
  rfl

/-- The body on any two whole buffers: it reads the first, whose contents `X` stay, and leaves `outBlock i X` in the
    second. -/
theorem body_on (c : Dev nD) (E : Set ℕ) (i : grid0.Coords) (M1 : Memref sig .tc .vmem S1x65536 .f32) (h1 : M1.IsWhole)
    (M2 : Memref sig .tc .vmem S1x65536 .f32) (h2 : M2.IsWhole) (X Y : S1x65536.Idx → Elt F .f32) (K : PUnit → sProp 𝕄) :
    iprop((owns (c : Thread nD τ) M1 fullShare X ∗ owns (c : Thread nD τ) M2 fullShare Y)
          ∗ (iprop(owns (c : Thread nD τ) M1 fullShare X ∗ owns (c : Thread nD τ) M2 fullShare (outBlock i X)) -∗ K ⟨⟩))
      ⊢ wp frame (wpE (defs₀ (F := F)) Variants.none c none) E (cc0__edge_drop_block i M1 h1 M2 h2) K := by
  have hz : (![0, 0] : Fin 2 → Nat) = fun _ => 0 := funext fun a => by fin_cases a <;> rfl
  simp only [cc0__edge_drop_block_eq_skeleton]
  unfold cc0__edge_drop_block_skel
  simp only [k0_part1_eq_skeleton, k0_part2_eq_skeleton, k0_part3_eq_skeleton, k0_part4_eq_skeleton]
  unfold k0_part1_skel k0_part2_skel k0_part3_skel k0_part4_skel owns
  simp only [Prog.lift, Prog.bind_op, Prog.bind_ret, pure_bind, h1.set_eq_univ, h2.set_eq_univ]
  iintro ⟨⟨⟨%f1, %hf1, H1⟩, ⟨%f2, %hf2, H2⟩⟩, Hk⟩
  sl_steps
  iapply Hk
  isplitl [H1]
  · iexists f1; isplitr; · ipureintro; exact hf1
    iexact H1
  · iexists _; isplitr
    swap
    · iexact H2
    · ipureintro
      rw [read_store_all h2 hz, load_all hz, hf1]
      rfl

/-! ## The staging buffers at every grid point -/

/-- The input block of point `t` on the lanes inside the array, the zero word past the array's end. -/
def inBlock (c : Dev nD) (t : Fin cfg0.N) : S1x65536.Idx → Elt F .f32 :=
  win0_0.fill (grid0.coords t) (fun _ => Scalar.ofBits .f32 0#32) (iblk m c 0 t)

/-- The proof data of the one launch: the arrays as the lines before the launch leave them; after the body at a point
    the two staging buffers hold the input block and what the body computes from it. -/
def dats (_ : Fin 1) (c : Dev nD) : Dat τ (Elt F) Unit ℕ (UR sig nD τ) ℕ cfg0 c where
  A w := V m c (Pipeline.arrRef spec0 w)
  after w t := match w with
    | ⟨0, _⟩ => inBlock m c t
    | ⟨1, _⟩ => outBlock (grid0.coords t) (inBlock m c t)
  Φ _ := Pipeline.ΦA spec0 c
  q _ := fullShare
  owed _ := 0

/-- The arrays of the proof data are those the launch finds. -/
theorem A_eq (c : Dev nD) (w : Fin cfg0.W) : (dats m 0 c).A w = V m c (Pipeline.arrRef spec0 w) := by
  dsimp only [dats]

/-- The body finds the input's buffer just fetched: the block on the lanes inside the array, anything past them. -/
theorem before_in (c : Dev nD) (t : Fin cfg0.N) (d) :
    (dats m 0 c).before (0 : Fin 2) t d = win0_0.fill (grid0.coords t) d (iblk m c 0 t) := by
  unfold Dat.before
  rw [if_pos (fetch0_0 t)]
  rfl

/-- The body finds the result's buffer at contents nothing names. -/
theorem before_out (c : Dev nD) (t : Fin cfg0.N) (d) : (dats m 0 c).before (1 : Fin 2) t d = d :=
  Dat.before_out_reset (dats m 0 c) (1 : Fin 2) rfl t
    (by by_cases h : t.val = 0
        · exact .inl h
        · exact .inr ⟨by omega, flush0_1 _⟩) d

/-- On the lanes inside the array the body's result does not depend on what lies past the array's end. -/
theorem cut_outBlock (c : Dev nD) (t : Fin cfg0.N) (d : S1x65536.Idx → Elt F .f32) :
    win0_1.cut (grid0.coords t) (outBlock (grid0.coords t) (win0_0.fill (grid0.coords t) d (iblk m c 0 t)))
      = win0_1.cut (grid0.coords t) (outBlock (grid0.coords t) (inBlock m c t)) := by
  funext j
  have h := congrFun ((win0_0.cut_fill (grid0.coords t) d (iblk m c 0 t)).trans
    (win0_0.cut_fill (grid0.coords t) (fun _ => Scalar.ofBits .f32 0#32) (iblk m c 0 t)).symm) j
  show outBlock _ _ _ = outBlock _ _ _
  rw [outBlock_apply, outBlock_apply]
  exact if_congr Iff.rfl rfl h

set_option backward.isDefEq.respectTransparency.types false in
/-- What the library asks of the body at every point, from `body_on` at the point's two staging buffers. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_in m c t d0, before_out m c t d1]
  iapply (body_on (F := F) c Set.univ (grid0.coords t) (win0_0.stage (cfg0.slots t 0))
    (hstage0_0 ((cfg0.slots t 0).cast nbuf0_0)) (win0_1.stage (cfg0.slots t 1))
    (hstage0_1 ((cfg0.slots t 1).cast nbuf0_1)) (win0_0.fill (grid0.coords t) d0 (iblk m c 0 t)) d1 _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) (inBlock m c t)))
    rw [show win0_0.cut (grid0.coords t) (inBlock m c t) = iblk m c 0 t from win0_0.cut_fill _ _ _]
    try iexact H0
  · iexists outBlock (grid0.coords t) (win0_0.fill (grid0.coords t) d0 (iblk m c 0 t))
    change _ ⊢ owns (c : Thread nD τ) (win0_1.stage (cfg0.slots t 1)) fullShare
      (win0_1.fill (grid0.coords t) (outBlock (grid0.coords t) (win0_0.fill (grid0.coords t) d0 (iblk m c 0 t)))
        (win0_1.cut (grid0.coords t) (outBlock (grid0.coords t) (inBlock m c t))))
    rw [win0_1.fill_congr_cut _ (cut_outBlock m c t d0)]
    try iexact H1

/-! ## The launch -/

/-- What a final state of the program is known to satisfy: the launch's arrays and every other buffer at what the
    library computes, and every semaphore at zero. -/
def Final (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
/-- From any memory with every semaphore at zero, every execution ends in a state as `Final` says. -/
theorem run_main : θ_run defs (onTc (τ := τ) (main (F := F))) (s₀ m ρ) (Final m) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)
    (Q' := Final m) (hQ' := fun _ h => h)

/-- Both arguments end as they were launched. -/
theorem Final.args {r : PUnit × MemSt nD τ sig (Elt F)} (h : Final m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c)⟩

/-- Every execution ends with both arguments as launched and every semaphore at zero. -/
theorem frame : θ_run defs (onTc (τ := τ) (main (F := F))) (s₀ m ρ) fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => Final.args m h c, h.2⟩) (run_main m ρ)

end Cert.DropIdeal
-- ==== Proof.Words.lean ====
/-
  The random words, on single 32-bit words: one mixing round of the Threefry-2x32 generator, four rounds in a row, the
  addition of key words between them, and the twenty-round generator.
-/
module

public import Idealize.ShloMosaic.PureOps.Float

@[expose] public section

namespace Cert.Words

open Idealize.ShloMosaic

/-- The two words that the generator works on. -/
abbrev Pair := BitVec 32 × BitVec 32

/-- One round: the words are added, and the second, rotated left by `l` (right by `r = 32 − l`), is xored with the
    sum. -/
def mix (l r : BitVec 32) (p : Pair) : Pair :=
  (p.1 + p.2, (p.1 + p.2) ^^^ ((p.2 <<< l) ||| (p.2 >>> r)))

/-- The four rounds of the first, third and fifth group. -/
def mixOdd (p : Pair) : Pair := mix 6#32 26#32 (mix 26#32 6#32 (mix 15#32 17#32 (mix 13#32 19#32 p)))

/-- The four rounds of the second and fourth group. -/
def mixEven (p : Pair) : Pair := mix 24#32 8#32 (mix 16#32 16#32 (mix 29#32 3#32 (mix 17#32 15#32 p)))

/-- Two words added to a pair. -/
def plus (p : Pair) (a b : BitVec 32) : Pair := (p.1 + a, p.2 + b)

/-- The third key word. -/
def key2 (k0 k1 : BitVec 32) : BitVec 32 := k0 ^^^ k1 ^^^ 466688986#32

/-- The generator: five groups of four rounds, key words added before the first and after each. -/
def threefry (k0 k1 : BitVec 32) (c : Pair) : Pair :=
  let g0 := plus c k0 k1
  let g1 := plus (mixOdd g0) k1 (key2 k0 k1 + 1#32)
  let g2 := plus (mixEven g1) (key2 k0 k1) (k0 + 2#32)
  let g3 := plus (mixOdd g2) k0 (k1 + 3#32)
  let g4 := plus (mixEven g3) k1 (key2 k0 k1 + 4#32)
  plus (mixOdd g4) (key2 k0 k1) (k0 + 5#32)

/-- The random word of entry `n`: both output words of the generator at key 42 and counter `n`, xored. -/
def word (n : BitVec 32) : BitVec 32 :=
  (threefry 0#32 42#32 (0#32, n)).1 ^^^ (threefry 0#32 42#32 (0#32, n)).2

/-- A left shift by less than 32 places is the same on every unit. -/
theorem shli_lt (u : ArithUnit) (x y : BitVec 32) (h : y.toNat < 32) : IntOp.shli u x y = x <<< y := if_pos h

/-- A right shift by less than 32 places is the same on every unit. -/
theorem shrui_lt (u : ArithUnit) (x y : BitVec 32) (h : y.toNat < 32) : IntOp.shrui u x y = x >>> y := if_pos h

end Cert.Words
-- ==== Proof.Drop.lean ====
/-
  From the random word of an entry to the decision to drop it: the number in [0, 1) that the word's high 23 bits make,
  the comparison with the drop rate, and that scaling the number to the range from 0 to 1 leaves it as it is.
-/
module

public import Idealize.ShloMosaic.Lib.IdealHost
public import proofs.«01_k».proof.Proof.Words

@[expose] public section

noncomputable section

namespace Cert.Drop

open Idealize.ShloMosaic Cert.Words

/-- The pattern of a number in [1, 2): the word's high 23 bits after the exponent of 1. -/
def pattern (w : BitVec 32) : BitVec 32 := (w >>> 9#32) ||| 1065353216#32

/-- The pattern has no sign. -/
theorem pattern_sign (w : BitVec 32) : (pattern w).extractLsb' 31 1 = 0#1 := by
  ext i hi
  obtain rfl : i = 0 := by omega
  simp [pattern]

/-- The pattern has the exponent of 1. -/
theorem pattern_exponent (w : BitVec 32) : (pattern w).extractLsb' 23 8 = 127#8 := by
  ext i hi
  have : i = 0 ∨ i = 1 ∨ i = 2 ∨ i = 3 ∨ i = 4 ∨ i = 5 ∨ i = 6 ∨ i = 7 := by omega
  rcases this with rfl | rfl | rfl | rfl | rfl | rfl | rfl | rfl <;> simp [pattern]

/-- The number that the pattern denotes is at least 1. -/
theorem one_le_pattern (w : BitVec 32) : (1 : EReal) ≤ Ideal.ofBits .f32 (pattern w) := by
  have h : Ideal.ofBits .f32 (pattern w) = Ideal.ieee 8 23 (pattern w) := rfl
  rw [h]
  unfold Ideal.ieee
  simp only [Nat.reduceAdd, pattern_sign, pattern_exponent]
  norm_num
  rw [show (1 : EReal) = ((1 : ℝ) : EReal) from rfl]
  norm_cast
  rw [mul_one_div, le_div_iff₀ (by norm_num), one_mul, Nat.cast_add]
  exact le_add_of_nonneg_right (Nat.cast_nonneg _)

/-- The number in [0, 1) that a random word makes. -/
def unitOf (w : BitVec 32) : EReal := Ideal.ofBits .f32 (pattern w) - Ideal.ofBits .f32 0x3F800000#32

theorem unitOf_nonneg (w : BitVec 32) : 0 ≤ unitOf w := by
  unfold unitOf
  rw [Ideal.ofBits_one_f32]
  exact (EReal.sub_nonneg (.inr (EReal.coe_ne_top 1)) (.inr (EReal.coe_ne_bot 1))).2 (one_le_pattern w)

/-- Scaled to the range from 0 to 1 and bounded below by 0, the number is itself. -/
theorem scaled (w : BitVec 32) :
    max (Ideal.ofBits .f32 0x00000000#32) (unitOf w * (Ideal.ofBits .f32 0x3F800000#32 - Ideal.ofBits .f32 0x00000000#32)
      + Ideal.ofBits .f32 0x00000000#32) = unitOf w := by
  rw [Ideal.ofBits_one_f32, Ideal.ofBits_zero_f32, sub_zero, mul_one, add_zero]
  exact max_eq_right (unitOf_nonneg w)

/-- Whether entry `n` is dropped: its number, plus the drop rate, exceeds 1. -/
def dropped (n : BitVec 32) : BitVec 1 :=
  Ideal.cmp .ogt (unitOf (word n) + Ideal.ofBits .f32 0x3E4CCCCD#32) (Ideal.ofBits .f32 0x3F800000#32)

end Cert.Drop
-- ==== Proof.KernelWords.lean ====
/-
  What the kernel's vectors of words hold, lane by lane: each round of the kernel is the generator's round on the lane's
  two words, so the mask of block `i` on lane `j` is the decision on entry 65536 · i + j.
-/
module

public import proofs.«01_k».proof.Proof.IdealRun
public import proofs.«01_k».proof.Proof.Drop

@[expose] public section

noncomputable section

namespace Cert.DropIdeal

open Idealize.ShloMosaic Cert.KernelIdeal Cert.KernelIdeal.Gen Cert.Words Cert.Drop

/-- A vector of words, one per lane of a block. -/
abbrev Lanes := IVec S1x65536 32

/-- One round on whole vectors, as the kernel writes it. -/
def vmix (k k' : BitVec 32) (p : Lanes × Lanes) : Lanes × Lanes :=
  (addi p.1 p.2,
    xori (ori (shli p.2 (broadcast S1x65536 k)) (shrui p.2 (broadcast S1x65536 k'))) (addi p.1 p.2))

/-- The pair of words on one lane. -/
def lane (p : Lanes × Lanes) (j : S1x65536.Idx) : Pair := (p.1 j, p.2 j)

/-- On each lane the vectors' round is the generator's. -/
theorem lane_vmix (k k' : BitVec 32) (p : Lanes × Lanes) (j : S1x65536.Idx) (h : k.toNat < 32)
    (h' : k'.toNat < 32) : lane (vmix k k' p) j = mix k k' (lane p j) :=
  Prod.ext rfl (((congrArg₂ (fun a b : BitVec 32 => (a ||| b) ^^^ (p.1 j + p.2 j))
    (shli_lt .vector (p.2 j) k h) (shrui_lt .vector (p.2 j) k' h')) :
      (vmix k k' p).2 j = ((p.2 j <<< k) ||| (p.2 j >>> k')) ^^^ (p.1 j + p.2 j)).trans (BitVec.xor_comm _ _))

/-- Words added to a pair of vectors, the same on every lane. -/
def vplus (p : Lanes × Lanes) (a b : BitVec 32) : Lanes × Lanes :=
  (addi p.1 (broadcast S1x65536 a), addi p.2 (broadcast S1x65536 b))

theorem lane_vplus (p : Lanes × Lanes) (a b : BitVec 32) (j : S1x65536.Idx) :
    lane (vplus p a b) j = plus (lane p j) a b := rfl

/-- Four rounds of the first, third and fifth group. -/
def vodd (p : Lanes × Lanes) : Lanes × Lanes := vmix 6#32 26#32 (vmix 26#32 6#32 (vmix 15#32 17#32 (vmix 13#32 19#32 p)))

/-- Four rounds of the second and fourth group. -/
def veven (p : Lanes × Lanes) : Lanes × Lanes := vmix 24#32 8#32 (vmix 16#32 16#32 (vmix 29#32 3#32 (vmix 17#32 15#32 p)))

theorem lane_vodd (p : Lanes × Lanes) (j : S1x65536.Idx) : lane (vodd p) j = mixOdd (lane p j) := by
  unfold vodd mixOdd
  rw [lane_vmix, lane_vmix, lane_vmix, lane_vmix] <;> decide

theorem lane_veven (p : Lanes × Lanes) (j : S1x65536.Idx) : lane (veven p) j = mixEven (lane p j) := by
  unfold veven mixEven
  rw [lane_vmix, lane_vmix, lane_vmix, lane_vmix] <;> decide

/-! ## The five groups of the kernel -/

/-- The vectors after the first group and its keys. -/
def after1 (i : grid0.Coords) : Lanes × Lanes := (addi (k0_pay9 i) (broadcast S1x65536 42#32), k0_pay10 i)

theorem after1_eq (i : grid0.Coords) :
    after1 i = vplus (vodd (broadcast S1x65536 0#32, k0_pay2 i)) 42#32 466689009#32 := rfl

/-- The vectors after the second group and its keys, from what the first quarter hands on. -/
def after2 (i : grid0.Coords) : Lanes × Lanes :=
  (addi (k0_pay19 (k0_pay11 i) (k0_pay12 i) (k0_pay13 i)) (broadcast S1x65536 466689008#32),
    k0_pay20 (k0_pay11 i) (k0_pay12 i) (k0_pay13 i))

theorem after2_eq (i : grid0.Coords) : after2 i = vplus (veven (after1 i)) 466689008#32 2#32 := rfl

/-- The vectors after the third group and its keys. -/
def after3 (i : grid0.Coords) : Lanes × Lanes :=
  let p := words2 i
  (addi (k0_pay29 p.1 p.2.1 p.2.2) (broadcast S1x65536 0#32), k0_pay30 p.1 p.2.1 p.2.2)

theorem after3_eq (i : grid0.Coords) : after3 i = vplus (vodd (after2 i)) 0#32 45#32 := rfl

/-- The vectors after the fourth group and its keys. -/
def after4 (i : grid0.Coords) : Lanes × Lanes :=
  let p := words2 i
  (addi (k0_pay37 p.1 p.2.1 p.2.2) (broadcast S1x65536 42#32), k0_pay38 p.1 p.2.1 p.2.2)

theorem after4_eq (i : grid0.Coords) : after4 i = vplus (veven (after3 i)) 42#32 466689012#32 := rfl

/-- The mask from the vectors after the last group and its keys. -/
def maskOf (p : Lanes × Lanes) : IVec S1x65536 1 :=
  cmpf (F := Ideal) (φ := .f32) .ogt
    (addf (subf (bitcastToFloat .f32 (ori (shrui (xori p.1 p.2) (broadcast S1x65536 9#32))
      (broadcast S1x65536 1065353216#32))) (broadcast S1x65536 (Scalar.ofBits .f32 0x3F800000#32)))
      (broadcast S1x65536 (Scalar.ofBits .f32 0x3E4CCCCD#32)))
    (broadcast S1x65536 (Scalar.ofBits .f32 0x3F800000#32))

theorem dropMask_eq (i : grid0.Coords) :
    dropMask (F := Ideal) i = maskOf (vplus (vodd (after4 i)) 466689008#32 5#32) := rfl

/-- On each lane the mask compares the number that the lane's two words make. -/
theorem maskOf_apply (p : Lanes × Lanes) (j : S1x65536.Idx) :
    maskOf p j = Ideal.cmp .ogt (unitOf ((lane p j).1 ^^^ (lane p j).2) + Ideal.ofBits .f32 0x3E4CCCCD#32)
      (Ideal.ofBits .f32 0x3F800000#32) := by
  have h : IntOp.shrui .vector (p.1 j ^^^ p.2 j) 9#32 = (p.1 j ^^^ p.2 j) >>> 9#32 := shrui_lt _ _ _ (by decide)
  exact congrArg (fun w : BitVec 32 => Ideal.cmp .ogt (Ideal.ofBits .f32 (w ||| 1065353216#32)
    - Ideal.ofBits .f32 0x3F800000#32 + Ideal.ofBits .f32 0x3E4CCCCD#32) (Ideal.ofBits .f32 0x3F800000#32)) h

/-- The vectors that the last comparison reads hold, on each lane, the generator's words for that lane's entry. -/
theorem lane_last (i : grid0.Coords) (j : S1x65536.Idx) (n : BitVec 32) (hn : k0_pay2 i j = n + 42#32) :
    lane (vplus (vodd (after4 i)) 466689008#32 5#32) j = threefry 0#32 42#32 (0#32, n) := by
  rw [lane_vplus, lane_vodd, after4_eq, lane_vplus, lane_veven, after3_eq, lane_vplus, lane_vodd, after2_eq, lane_vplus,
    lane_veven, after1_eq, lane_vplus, lane_vodd]
  have h0 : lane (broadcast S1x65536 0#32, k0_pay2 i) j = plus (0#32, n) 0#32 42#32 := Prod.ext rfl hn
  rw [h0]
  rfl

/-- The mask of block `i` on lane `j` is the decision on the entry of that lane. -/
theorem dropMask_apply (i : grid0.Coords) (j : S1x65536.Idx) (n : BitVec 32) (hn : k0_pay2 i j = n + 42#32) :
    dropMask (F := Ideal) i j = dropped n := by
  rw [dropMask_eq, maskOf_apply, lane_last i j n hn]
  rfl

/-- The entry of lane `j` of block `i`, as the kernel counts it. -/
theorem pay2_apply (i : grid0.Coords) (j : S1x65536.Idx) :
    k0_pay2 i j = BitVec.ofNat 32 ((i 0).val * 65536 + (j 1).val) + 42#32 := by
  have h : (BitVec.ofNat 32 (0 * 65536 + (j 1).val) + BitVec.ofNat 32 (i 0).val * 65536#32 : BitVec 32)
      = BitVec.ofNat 32 ((i 0).val * 65536 + (j 1).val) := by
    rw [Nat.zero_mul, Nat.zero_add, ← BitVec.ofNat_mul, ← BitVec.ofNat_add, Nat.add_comm]
  exact congrArg (· + 42#32) h

end Cert.DropIdeal
-- ==== Proof.ArrayValue.lean ====
/-
  What the kernel's program leaves in its result: the blocks written back make up the whole array, so entry `n` of the
  result is zero where `n` is dropped and the argument's entry elsewhere.
-/
module

public import proofs.«01_k».proof.Proof.KernelWords
public import Idealize.ShloMosaic.Lib.StableHlo.Run
public import Idealize.ShloMosaic.Lib.Pipeline.ValueKit.Geometry

@[expose] public section

noncomputable section

namespace Cert.DropIdeal

open Cert.KernelIdeal Cert.KernelIdeal.Gen Cert.Drop
open Idealize.ShloMosaic Idealize.ShloMosaic.TcCoe Idealize.SL.Sem
open Idealize.ShloMosaic.Pipeline (Dat)

variable (m : (ℓ : Loc nD τ sig) → Buf (Elt Ideal) ℓ)

/-- The array of one row that the launch leaves: zero on the dropped entries, the input on the others. -/
def row (c : Dev nD) : S1x2684354.Idx → Elt Ideal .f32 := fun k =>
  if dropped (BitVec.ofNat 32 (k 1).val) = 1#1 then Ideal.ofBits .f32 0x00000000#32 else V m c main_v0 k

/-- Point `t` writes the block of its own number. -/
theorem block_index : ∀ t : Fin cfg0.N, win0_1.index t 1 = (grid0.coords t 0).val := by decide +kernel

/-- Block `t` starts at entry 65536 · t of the row. -/
theorem block_entry (t : Fin cfg0.N) (y : (win0_1.xblock (grid0.coords t)).Idx) :
    (grid0.coords t 0).val * 65536 + (win0_1.xinj (grid0.coords t) y 1).val = ((win0_1.blk t).view.emb y 1).val := by
  blk_simp
  rw [block_index]

/-- On the lanes inside the array the block handed to the body is the block of the input. -/
theorem inBlock_lane (c : Dev nD) (t : Fin cfg0.N) (y : (win0_0.xblock (grid0.coords t)).Idx) :
    inBlock m c t (win0_0.xinj (grid0.coords t) y) = iblk m c 0 t y :=
  congrFun (win0_0.cut_fill (grid0.coords t) (fun _ => Scalar.ofBits (F := Ideal) .f32 0#32) (iblk m c 0 t)) y

/-- The input's blocks lie where the result's do. -/
theorem block_place (t : Fin cfg0.N) (y : (win0_1.xblock (grid0.coords t)).Idx) :
    ((win0_0.blk t).view.emb y : S1x2684354.Idx) = (win0_1.blk t).view.emb y := by
  funext a
  apply Fin.ext
  have h : ∀ a, win0_0.index t a = win0_1.index t a := fun _ => rfl
  blk_simp [h]

/-- The input's block holds the input at the places of the result's block. -/
theorem iblk_lane (c : Dev nD) (t : Fin cfg0.N) (y : (win0_1.xblock (grid0.coords t)).Idx) :
    iblk m c 0 t y = V m c main_v0 ((win0_1.blk t).view.emb y) := by
  blk_simp [iblk]
  exact congrArg (V m c main_v0) (block_place t y)

/-- What the body leaves on a lane inside the array. -/
theorem outBlock_lane (c : Dev nD) (t : Fin cfg0.N) (y : (win0_1.xblock (grid0.coords t)).Idx) :
    outBlock (grid0.coords t) (inBlock m c t) (win0_1.xinj (grid0.coords t) y) = row m c ((win0_1.blk t).view.emb y) := by
  have hin : inBlock m c t (win0_1.xinj (grid0.coords t) y) = V m c main_v0 ((win0_1.blk t).view.emb y) :=
    (inBlock_lane m c t y).trans (iblk_lane m c t y)
  rw [outBlock_apply, dropMask_apply _ _ _ (pay2_apply _ _), block_entry, hin]
  exact if_congr Iff.rfl rfl rfl

/-- The blocks written back make up the whole array. -/
theorem covers : (cfg0.win 1).Covers := by decide +kernel

/-- What the proof data say that the body leaves for the result. -/
theorem after_out (c : Dev nD) (t : Fin cfg0.N) :
    (dats m 0 c).after (1 : Fin 2) t = outBlock (grid0.coords t) (inBlock m c t) := by
  dsimp only [dats]

/-- The launch leaves the row. -/
theorem array_eq (c : Dev nD) : (dats m 0 c).arrAt (1 : Fin 2) cfg0.N = row m c := by
  refine (dats m 0 c).arrAt_eq_of_covers (1 : Fin 2) (row m c) covers fun t hf y => ?_
  rw [after_out]
  have h := outBlock_lane m c t y
  generalize outBlock (grid0.coords t) (inBlock m c t) = X at h ⊢
  generalize row m c = R at h ⊢
  exact (eq_of_heq (cast_heq _ _)).trans h

/-- What the launch finds in its input: the argument as one row. -/
theorem input_eq (c : Dev nD) : V m c main_v0
    = shapeCast S1x2684354 (m ((c : Thread nD τ).loc main_arg1)) shapeCasts_S2684354_S1x2684354 := by
  refine Eq.trans ?_ (StableHlo.reshape_result main_arg1 main_v0 rfl shapeCasts_S2684354_S1x2684354 (by decide)
    (by decide) (fun b => m (c, b)))
  rfl

/-- The result, entry by entry. -/
def result (c : Dev nD) : S2684354.Idx → Elt Ideal .f32 := fun i =>
  if dropped (BitVec.ofNat 32 (i 0).val) = 1#1 then Ideal.ofBits .f32 0x00000000#32
  else m ((c : Thread nD τ).loc main_arg1) i

/-- The row, as an array without the unit axis, is the result. -/
theorem row_cast (c : Dev nD) : shapeCast S2684354 (row m c) shapeCasts_S1x2684354_S2684354 = result m c := by
  funext i
  refine (shapeCast_dropUnit_apply _ (row m c) shapeCasts_S1x2684354_S2684354 i).trans ?_
  have h : V m c main_v0 (Fin.cons ⟨0, Nat.one_pos⟩ i) = m ((c : Thread nD τ).loc main_arg1) i := by
    rw [input_eq]
    exact (shapeCast_dropUnit_apply _ _ shapeCasts_S1x2684354_S2684354 i).symm.trans
      (congrFun (shapeCast_shapeCast (m ((c : Thread nD τ).loc main_arg1)) shapeCasts_S2684354_S1x2684354
        shapeCasts_S1x2684354_S2684354) i)
  unfold row result
  rw [h]
  rfl

/-- Where the program ends, its result holds that. -/
theorem Final.result {r : PUnit × MemSt nD τ sig (Elt Ideal)} (h : Final m r) (c : Dev nD) :
    r.2.mem ((c.tc : Thread nD τ).loc main_v2) = result m c := by
  refine ((h.1 c).2 main_v2 (Pipeline.mem_restRefs_of main_v2 (by decide) (by decide))).trans ?_
  refine (StableHlo.reshape_result main_v1 main_v2 rfl shapeCasts_S1x2684354_S2684354 (by decide) (by decide)
    (Pipeline.withArrays spec0 c (V0 m c) fun w => (dats m 0 c).arrAt w cfg0.N)).trans ?_
  refine Eq.trans ?_ (row_cast m c)
  have ha := (Pipeline.withArrays_arr spec0 launch0.win.arr_inj c (V0 m c)
    (fun w => (dats m 0 c).arrAt w cfg0.N) (1 : Fin 2)).trans (array_eq m c)
  exact congrArg (fun x => shapeCast S2684354 x shapeCasts_S1x2684354_S2684354) ha

end Cert.DropIdeal
-- ==== Proof.RefSteps.lean ====
/-
  Straight-line programs in which operation number k writes buffer number q + k and reads only buffers of smaller
  numbers. Where such a program ends, every one of its operations' equations holds: running any of them once more
  changes nothing. So what the program computed is read off its final contents alone, one equation per operation.
-/
module

public import Idealize.ShloMosaic.Lib.StableHlo.Run

@[expose] public section

namespace Cert.RefSteps

open Idealize.ShloMosaic Idealize.ShloMosaic.StableHlo

variable {τ : Topo} {sig : RefSig} {Val : EltTy → Type} {T Tx Ta Tb Tc Ty : BufTy}

/-- The number of a buffer. -/
abbrev num (r : Ref sig .tc) : ℕ := r.idx.val

/-- What the buffer of a typed reference holds, at the value's type. -/
def rd (V : Valuation τ sig Val) (x : TRef sig T) : T.Contents Val := x.ofBuf (V (Proc.devRef .tc x.ref))

/-- Two valuations agree on the buffers of numbers below `q`. -/
def AgreeBelow (q : ℕ) (V V' : Valuation τ sig Val) : Prop :=
  ∀ r : Ref sig .tc, num r < q → V (Proc.devRef .tc r) = V' (Proc.devRef .tc r)

/-- The operation writes one buffer, of number `q`, and what it writes is determined by the buffers of smaller
    numbers; it touches TensorCore buffers only, and determines what it writes. -/
structure Step (q : ℕ) (op : HloOp τ sig Val) : Prop where
  /-- The one buffer written, what it is made from, and that no other changes. -/
  one : ∃ y : Ref sig .tc, num y = q
    ∧ (∀ (V : Valuation τ sig Val) (r : Ref sig .tc), r ≠ y → op.result V (Proc.devRef .tc r) = V (Proc.devRef .tc r))
    ∧ ∀ V V' : Valuation τ sig Val, AgreeBelow q V V' →
        op.result V (Proc.devRef .tc y) = op.result V' (Proc.devRef .tc y)
  /-- Its buffers are the TensorCore's. -/
  bufs_sub : op.bufs ⊆ tcRefs τ sig
  /-- It leaves nothing undetermined. -/
  fresh_eq : op.fresh = ∅

/-- Operation number `k` of the list writes buffer number `q + k`. -/
def Ordered : ℕ → List (HloOp τ sig Val) → Prop
  | _, [] => True
  | q, op :: ops => Step q op ∧ Ordered (q + 1) ops

/-- Running the operation once more changes no buffer. -/
def Fixed (W : Valuation τ sig Val) (op : HloOp τ sig Val) : Prop :=
  ∀ r : Ref sig .tc, op.result W (Proc.devRef .tc r) = W (Proc.devRef .tc r)

/-- Every operation of the list is fixed. -/
def AllFixed (W : Valuation τ sig Val) (ops : List (HloOp τ sig Val)) : Prop := ∀ op ∈ ops, Fixed W op

theorem Ordered.append {q : ℕ} {l l' : List (HloOp τ sig Val)} (h : Ordered q l) (h' : Ordered (q + l.length) l') :
    Ordered q (l ++ l') := by
  induction l generalizing q with
  | nil => exact h'
  | cons op ops ih => exact ⟨h.1, ih h.2 (by rw [List.length_cons] at h'; rwa [Nat.add_assoc, Nat.add_comm 1])⟩

theorem Ordered.bufs_sub {q : ℕ} {l : List (HloOp τ sig Val)} (h : Ordered q l) :
    ∀ op ∈ l, op.bufs ⊆ tcRefs τ sig := by
  induction l generalizing q with
  | nil => exact fun _ hm => absurd hm List.not_mem_nil
  | cons op ops ih =>
    intro o ho
    rcases List.mem_cons.1 ho with rfl | ho
    · exact h.1.bufs_sub
    · exact ih h.2 o ho

theorem Ordered.fresh_eq {q : ℕ} {l : List (HloOp τ sig Val)} (h : Ordered q l) : ∀ op ∈ l, op.fresh = ∅ := by
  induction l generalizing q with
  | nil => exact fun _ hm => absurd hm List.not_mem_nil
  | cons op ops ih =>
    intro o ho
    rcases List.mem_cons.1 ho with rfl | ho
    · exact h.1.fresh_eq
    · exact ih h.2 o ho

/-- A buffer of a number below the first written one keeps its contents. -/
theorem Ordered.keeps {q : ℕ} {l : List (HloOp τ sig Val)} (h : Ordered q l) (V : Valuation τ sig Val)
    (r : Ref sig .tc) (hr : num r < q) : after l V (Proc.devRef .tc r) = V (Proc.devRef .tc r) := by
  induction l generalizing q V with
  | nil => rfl
  | cons op ops ih =>
    obtain ⟨y, hy, hne, -⟩ := h.1.one
    rw [after_cons, ih h.2 _ (by omega), hne V r (by rintro rfl; omega)]

/-- Where the program ends, every operation's equation holds. -/
theorem Ordered.allFixed {q : ℕ} {l : List (HloOp τ sig Val)} (h : Ordered q l) (V : Valuation τ sig Val) :
    AllFixed (after l V) l := by
  induction l generalizing q V with
  | nil => exact fun _ hm => absurd hm List.not_mem_nil
  | cons op ops ih =>
    intro o ho
    rcases List.mem_cons.1 ho with rfl | ho
    · obtain ⟨y, hy, hne, hdet⟩ := h.1.one
      intro r
      by_cases hr : r = y
      · subst hr
        rw [after_cons, h.2.keeps _ r (by omega)]
        refine hdet _ _ fun r' hr' => ?_
        rw [h.2.keeps _ r' (by omega), hne V r' (by rintro rfl; omega)]
      · exact hne _ r hr
    · exact ih h.2 _ o ho

theorem AllFixed.head {W : Valuation τ sig Val} {op : HloOp τ sig Val} {l : List (HloOp τ sig Val)}
    (h : AllFixed W (op :: l)) : Fixed W op := h op List.mem_cons_self

theorem AllFixed.tail {W : Valuation τ sig Val} {op : HloOp τ sig Val} {l : List (HloOp τ sig Val)}
    (h : AllFixed W (op :: l)) : AllFixed W l := fun o ho => h o (List.mem_cons_of_mem _ ho)

theorem AllFixed.left {W : Valuation τ sig Val} {l l' : List (HloOp τ sig Val)} (h : AllFixed W (l ++ l')) :
    AllFixed W l := fun o ho => h o (List.mem_append_left _ ho)

theorem AllFixed.right {W : Valuation τ sig Val} {l l' : List (HloOp τ sig Val)} (h : AllFixed W (l ++ l')) :
    AllFixed W l' := fun o ho => h o (List.mem_append_right _ ho)

/-- Agreement of two valuations at a typed reference of a number below `q`. -/
theorem AgreeBelow.at {q : ℕ} {V V' : Valuation τ sig Val} (h : AgreeBelow q V V') (x : TRef sig T)
    (hx : num x.ref < q) : x.ofBuf (V (Proc.devRef .tc x.ref)) = x.ofBuf (V' (Proc.devRef .tc x.ref)) :=
  congrArg x.ofBuf (h x.ref hx)

/-! ## The kinds of operation: each a step, and its equation -/

theorem mem_tc (r : Ref sig .tc) : Proc.devRef .tc r ∈ tcRefs τ sig := by
  simp [tcRefs]

theorem Step.nullary {q : ℕ} (y : TRef sig Ty) (v : Ty.Contents Val) (hy : num y.ref = q) :
    Step (τ := τ) q (TRef.nullary y v) where
  one := ⟨y.ref, hy, fun V r h => nullary_result_ne (h := h) .., fun V V' _ => by rw [nullary_result, nullary_result]⟩
  bufs_sub := by
    intro b hb
    simp only [StableHlo.nullary, Finset.mem_singleton] at hb
    subst hb
    exact mem_tc _
  fresh_eq := rfl

theorem Step.unary {q : ℕ} (x : TRef sig Tx) (y : TRef sig Ty) (f : Tx.Contents Val → Ty.Contents Val)
    (hy : num y.ref = q) (hx : num x.ref < q) : Step (τ := τ) q (TRef.unary x y f) where
  one := ⟨y.ref, hy, fun V r h => unary_result_ne (h := h) ..,
    fun V V' h => by rw [unary_result, unary_result, h.at x hx]⟩
  bufs_sub := by
    intro b hb
    simp only [StableHlo.unary, Finset.mem_insert, Finset.mem_singleton] at hb
    rcases hb with rfl | rfl <;> exact mem_tc _
  fresh_eq := rfl

theorem Step.binary {q : ℕ} (a : TRef sig Ta) (b : TRef sig Tb) (y : TRef sig Ty)
    (f : Ta.Contents Val → Tb.Contents Val → Ty.Contents Val)
    (hy : num y.ref = q) (ha : num a.ref < q) (hb : num b.ref < q) : Step (τ := τ) q (TRef.binary a b y f) where
  one := ⟨y.ref, hy, fun V r h => binary_result_ne (h := h) ..,
    fun V V' h => by rw [binary_result, binary_result, h.at a ha, h.at b hb]⟩
  bufs_sub := by
    intro b hb
    simp only [StableHlo.binary, Finset.mem_insert, Finset.mem_singleton] at hb
    rcases hb with rfl | rfl | rfl <;> exact mem_tc _
  fresh_eq := rfl

theorem Step.ternary {q : ℕ} (c : TRef sig Tc) (a : TRef sig Ta) (b : TRef sig Tb) (y : TRef sig Ty)
    (f : Tc.Contents Val → Ta.Contents Val → Tb.Contents Val → Ty.Contents Val)
    (hy : num y.ref = q) (hc : num c.ref < q) (ha : num a.ref < q) (hb : num b.ref < q) :
    Step (τ := τ) q (TRef.ternary c a b y f) where
  one := ⟨y.ref, hy, fun V r h => ternary_result_ne (h := h) ..,
    fun V V' h => by rw [ternary_result, ternary_result, h.at c hc, h.at a ha, h.at b hb]⟩
  bufs_sub := by
    intro b hb
    simp only [StableHlo.ternary, Finset.mem_insert, Finset.mem_singleton] at hb
    rcases hb with rfl | rfl | rfl | rfl <;> exact mem_tc _
  fresh_eq := rfl

theorem Step.reshape {q : ℕ} (x : TRef sig Tx) (y : TRef sig Ty) (he : Tx.elt = Ty.elt)
    (hn : Tx.shape.ShapeCasts Ty.shape) (hy : num y.ref = q) (hx : num x.ref < q) :
    Step (τ := τ) (Val := Val) q (TRef.reshape x y he hn) where
  one := ⟨y.ref, hy, fun V r h => reshape_result_ne (h := h) ..,
    fun V V' h => by rw [reshape_result, reshape_result, h x.ref hx]⟩
  bufs_sub := by
    intro b hb
    simp only [StableHlo.reshape, Finset.mem_insert, Finset.mem_singleton] at hb
    rcases hb with rfl | rfl <;> exact mem_tc _
  fresh_eq := rfl

variable {W : Valuation τ sig Val}

theorem eq_nullary {y : TRef sig Ty} {v : Ty.Contents Val} (h : Fixed W (TRef.nullary y v)) : rd W y = v := by
  unfold rd
  rw [← h y.ref, nullary_result, TRef.ofBuf_toBuf]

theorem eq_unary {x : TRef sig Tx} {y : TRef sig Ty} {f : Tx.Contents Val → Ty.Contents Val}
    (h : Fixed W (TRef.unary x y f)) : rd W y = f (rd W x) := by
  refine (congrArg y.ofBuf (h y.ref)).symm.trans ?_
  rw [unary_result, TRef.ofBuf_toBuf]
  rfl

theorem eq_binary {a : TRef sig Ta} {b : TRef sig Tb} {y : TRef sig Ty}
    {f : Ta.Contents Val → Tb.Contents Val → Ty.Contents Val}
    (h : Fixed W (TRef.binary a b y f)) : rd W y = f (rd W a) (rd W b) := by
  refine (congrArg y.ofBuf (h y.ref)).symm.trans ?_
  rw [binary_result, TRef.ofBuf_toBuf]
  rfl

theorem eq_ternary {c : TRef sig Tc} {a : TRef sig Ta} {b : TRef sig Tb} {y : TRef sig Ty}
    {f : Tc.Contents Val → Ta.Contents Val → Tb.Contents Val → Ty.Contents Val}
    (h : Fixed W (TRef.ternary c a b y f)) : rd W y = f (rd W c) (rd W a) (rd W b) := by
  refine (congrArg y.ofBuf (h y.ref)).symm.trans ?_
  rw [ternary_result, TRef.ofBuf_toBuf]
  rfl

theorem eq_reshape {x : TRef sig Tx} {y : TRef sig Ty} {he : Tx.elt = Ty.elt} {hn : Tx.shape.ShapeCasts Ty.shape}
    (h : Fixed W (TRef.reshape x y he hn)) : rd W y = fun i => he ▸ shapeCast Ty.shape (rd W x) hn i := by
  refine (congrArg y.ofBuf (h y.ref)).symm.trans ?_
  rw [reshape_result]
  obtain ⟨xr, rfl, _, _⟩ := x
  obtain ⟨yr, rfl, _, _⟩ := y
  rfl

end Cert.RefSteps
-- ==== Proof.RefProgram.lean ====
/-
  The reference as one list of operations: the key, the counters, the twenty rounds of the generator with the key words
  added between them, the number in [0, 1) made from a random word, the comparison and the choice. The list is the
  program, and operation number k writes buffer number 2 + k from buffers of smaller numbers.
-/
module

public import proofs.«01_k».proof.Proof.Gen.ReferenceIdeal
public import proofs.«01_k».proof.Proof.RefSteps

@[expose] public section

noncomputable section

namespace Cert.RefProgram

open Idealize.ShloMosaic Idealize.SL.Sem Idealize.ShloMosaic.StableHlo Cert.ReferenceIdeal Cert.ReferenceIdeal.Gen
open Cert.RefSteps

variable {F : FTy → Type} [FloatOps F]

/-- One array of 32-bit words, an entry per edge. -/
abbrev Words := TRef sig ⟨S2684354, .i32⟩

/-- One 32-bit word. -/
abbrev Word := TRef sig ⟨S_, .i32⟩

/-- An array that holds one word everywhere. -/
def spread (x : IVec S_ 32) : IVec S2684354 32 := broadcastInDim S2684354 ![] bcast_S_S2684354 x

/-- One round of the generator: the sum `s` of both words, the second word shifted left by `k` and right by `k'`, both
    parts joined, and the sum xored with them. -/
def round (x₀ x₁ s : Words) (c : Word) (b l : Words) (c' : Word) (b' r o n : Words) (k k' : BitVec 32) :
    List (HloOp τ sig (Elt F)) :=
  [TRef.binary x₀ x₁ s addi, TRef.nullary c (constantI S_ 32 k), TRef.unary c b spread, TRef.binary x₁ b l Host.shli,
    TRef.nullary c' (constantI S_ 32 k'), TRef.unary c' b' spread, TRef.binary x₁ b' r Host.shrui,
    TRef.binary l r o ori, TRef.binary s o n xori]

/-- The key words `ka` and `kb` added to both words, and the number `k` to the second. -/
def addKeys (x₀ x₁ : Words) (ka kb : Word) (ba y₀ bb t : Words) (c : Word) (bc y₁ : Words) (k : BitVec 32) :
    List (HloOp τ sig (Elt F)) :=
  [TRef.unary ka ba spread, TRef.binary x₀ ba y₀ addi, TRef.unary kb bb spread, TRef.binary x₁ bb t addi,
    TRef.nullary c (constantI S_ 32 k), TRef.unary c bc spread, TRef.binary t bc y₁ addi]

variable (arg0 arg1 : Word) (arg2 arg3 : Words) (φ : fn_threefry2x32.Bufs)

/-- The generator's start: the third key word, and both key words added to the counter. -/
def start : List (HloOp τ sig (Elt F)) :=
  [TRef.binary arg0 arg1 φ.v0 xori, TRef.nullary φ.c (constantI S_ 32 466688986#32), TRef.binary φ.v0 φ.c φ.v1 xori,
    TRef.unary arg0 φ.v2 spread, TRef.binary arg2 φ.v2 φ.v3 addi, TRef.unary arg1 φ.v4 spread,
    TRef.binary arg3 φ.v4 φ.v5 addi]

/-- The first four rounds, and the keys after them. -/
def group1 : List (HloOp τ sig (Elt F)) :=
  round φ.v3 φ.v5 φ.v6 φ.c_0 φ.v7 φ.v8 φ.c_1 φ.v9 φ.v10 φ.v11 φ.v12 13#32 19#32 ++
    round φ.v6 φ.v12 φ.v13 φ.c_2 φ.v14 φ.v15 φ.c_3 φ.v16 φ.v17 φ.v18 φ.v19 15#32 17#32 ++
    round φ.v13 φ.v19 φ.v20 φ.c_4 φ.v21 φ.v22 φ.c_5 φ.v23 φ.v24 φ.v25 φ.v26 26#32 6#32 ++
    round φ.v20 φ.v26 φ.v27 φ.c_6 φ.v28 φ.v29 φ.c_7 φ.v30 φ.v31 φ.v32 φ.v33 6#32 26#32 ++
    addKeys φ.v27 φ.v33 arg1 φ.v1 φ.v34 φ.v35 φ.v36 φ.v37 φ.c_8 φ.v38 φ.v39 1#32

/-- The second four rounds, and the keys after them. -/
def group2 : List (HloOp τ sig (Elt F)) :=
  round φ.v35 φ.v39 φ.v40 φ.c_9 φ.v41 φ.v42 φ.c_10 φ.v43 φ.v44 φ.v45 φ.v46 17#32 15#32 ++
    round φ.v40 φ.v46 φ.v47 φ.c_11 φ.v48 φ.v49 φ.c_12 φ.v50 φ.v51 φ.v52 φ.v53 29#32 3#32 ++
    round φ.v47 φ.v53 φ.v54 φ.c_13 φ.v55 φ.v56 φ.c_14 φ.v57 φ.v58 φ.v59 φ.v60 16#32 16#32 ++
    round φ.v54 φ.v60 φ.v61 φ.c_15 φ.v62 φ.v63 φ.c_16 φ.v64 φ.v65 φ.v66 φ.v67 24#32 8#32 ++
    addKeys φ.v61 φ.v67 φ.v1 arg0 φ.v68 φ.v69 φ.v70 φ.v71 φ.c_17 φ.v72 φ.v73 2#32

/-- The third four rounds, and the keys after them. -/
def group3 : List (HloOp τ sig (Elt F)) :=
  round φ.v69 φ.v73 φ.v74 φ.c_18 φ.v75 φ.v76 φ.c_19 φ.v77 φ.v78 φ.v79 φ.v80 13#32 19#32 ++
    round φ.v74 φ.v80 φ.v81 φ.c_20 φ.v82 φ.v83 φ.c_21 φ.v84 φ.v85 φ.v86 φ.v87 15#32 17#32 ++
    round φ.v81 φ.v87 φ.v88 φ.c_22 φ.v89 φ.v90 φ.c_23 φ.v91 φ.v92 φ.v93 φ.v94 26#32 6#32 ++
    round φ.v88 φ.v94 φ.v95 φ.c_24 φ.v96 φ.v97 φ.c_25 φ.v98 φ.v99 φ.v100 φ.v101 6#32 26#32 ++
    addKeys φ.v95 φ.v101 arg0 arg1 φ.v102 φ.v103 φ.v104 φ.v105 φ.c_26 φ.v106 φ.v107 3#32

/-- The fourth four rounds, and the keys after them. -/
def group4 : List (HloOp τ sig (Elt F)) :=
  round φ.v103 φ.v107 φ.v108 φ.c_27 φ.v109 φ.v110 φ.c_28 φ.v111 φ.v112 φ.v113 φ.v114 17#32 15#32 ++
    round φ.v108 φ.v114 φ.v115 φ.c_29 φ.v116 φ.v117 φ.c_30 φ.v118 φ.v119 φ.v120 φ.v121 29#32 3#32 ++
    round φ.v115 φ.v121 φ.v122 φ.c_31 φ.v123 φ.v124 φ.c_32 φ.v125 φ.v126 φ.v127 φ.v128 16#32 16#32 ++
    round φ.v122 φ.v128 φ.v129 φ.c_33 φ.v130 φ.v131 φ.c_34 φ.v132 φ.v133 φ.v134 φ.v135 24#32 8#32 ++
    addKeys φ.v129 φ.v135 arg1 φ.v1 φ.v136 φ.v137 φ.v138 φ.v139 φ.c_35 φ.v140 φ.v141 4#32

/-- The fifth four rounds, and the keys after them. -/
def group5 : List (HloOp τ sig (Elt F)) :=
  round φ.v137 φ.v141 φ.v142 φ.c_36 φ.v143 φ.v144 φ.c_37 φ.v145 φ.v146 φ.v147 φ.v148 13#32 19#32 ++
    round φ.v142 φ.v148 φ.v149 φ.c_38 φ.v150 φ.v151 φ.c_39 φ.v152 φ.v153 φ.v154 φ.v155 15#32 17#32 ++
    round φ.v149 φ.v155 φ.v156 φ.c_40 φ.v157 φ.v158 φ.c_41 φ.v159 φ.v160 φ.v161 φ.v162 26#32 6#32 ++
    round φ.v156 φ.v162 φ.v163 φ.c_42 φ.v164 φ.v165 φ.c_43 φ.v166 φ.v167 φ.v168 φ.v169 6#32 26#32 ++
    addKeys φ.v163 φ.v169 φ.v1 arg0 φ.v170 φ.v171 φ.v172 φ.v173 φ.c_44 φ.v174 φ.v175 5#32

/-- The whole generator. -/
def generator : List (HloOp τ sig (Elt F)) :=
  start arg0 arg1 arg2 arg3 φ ++ (group1 arg1 φ ++ (group2 arg0 φ ++ (group3 arg0 arg1 φ ++ (group4 arg1 φ ++
    group5 arg0 φ))))

set_option maxRecDepth 65536 in
/-- The generator's function is that list. -/
theorem generator_eq : (fn_threefry2x32.body arg0 arg1 arg2 arg3 φ :
    Prog (TpuEff nD τ sig (Elt F) (Pipeline.Sig Λ₀ (Fin 0) fun p => (pcfgs (F := F) p).Adm) .tc) PUnit)
    = seq (generator arg0 arg1 arg2 arg3 φ) := rfl

/-- From the key's two halves to the generator's arguments: the bounds of the range, both key words, and the counter of
    an entry as two words of 32 bits. -/
def counters (k : TRef sig ⟨S2, .i32⟩) (lo hi : TRef sig ⟨S_, .f32⟩) (ψ : fn_uniform.Bufs) :
    List (HloOp τ sig (Elt F)) :=
  [TRef.unary lo ψ.v0 id, TRef.unary hi ψ.v1 id, TRef.unary ψ.v0 ψ.v2 (broadcastInDim S1 ![] bcast_S_S1),
    TRef.unary ψ.v1 ψ.v3 (broadcastInDim S1 ![] bcast_S_S1),
    TRef.unary k ψ.v4 (extractStridedSlice S1 ![0] · slices_S2_S1_0),
    TRef.reshape ψ.v4 ψ.v5 (rfl : (.i32 : EltTy) = .i32) shapeCasts_S1_S_,
    TRef.unary k ψ.v6 (extractStridedSlice S1 ![1] · slices_S2_S1_1),
    TRef.reshape ψ.v6 ψ.v7 (rfl : (.i32 : EltTy) = .i32) shapeCasts_S1_S_,
    TRef.nullary ψ.v8 (iotaInDim S2684354 64 0), TRef.nullary ψ.c (constantI S_ 64 1#64),
    TRef.unary ψ.c ψ.v9 (broadcastInDim S2684354 ![] bcast_S_S2684354), TRef.binary ψ.v9 ψ.v8 ψ.v10 muli,
    TRef.nullary ψ.c_0 (constantI S_ 64 32#64),
    TRef.unary ψ.c_0 ψ.v11 (broadcastInDim S2684354 ![] bcast_S_S2684354), TRef.binary ψ.v10 ψ.v11 ψ.v12 Host.shrui,
    TRef.unary ψ.v10 ψ.v13 (trunci 32 · natLt_32_64), TRef.unary ψ.v12 ψ.v14 (trunci 32 · natLt_32_64)]

/-- From the generator's two words to the number in [0, 1). -/
def toUnit (ψ : fn_uniform.Bufs) : List (HloOp τ sig (Elt F)) :=
  [TRef.binary ψ.call0.v171 ψ.call0.v175 ψ.v16 xori, TRef.nullary ψ.c_1 (constantI S_ 32 9#32),
    TRef.unary ψ.c_1 ψ.v17 spread, TRef.binary ψ.v16 ψ.v17 ψ.v18 Host.shrui,
    TRef.nullary ψ.c_2 (constantI S_ 32 1065353216#32), TRef.unary ψ.c_2 ψ.v19 spread,
    TRef.binary ψ.v18 ψ.v19 ψ.v20 ori, TRef.unary ψ.v20 ψ.v21 (bitcastToFloat .f32),
    TRef.nullary ψ.cst (constant S_ .f32 0x3F800000#32),
    TRef.unary ψ.cst ψ.v22 (broadcastInDim S2684354 ![] bcast_S_S2684354), TRef.binary ψ.v21 ψ.v22 ψ.v23 subf,
    TRef.binary ψ.v3 ψ.v2 ψ.v24 subf, TRef.unary ψ.v24 ψ.v25 (broadcastInDim S2684354 ![0] bcast_S1_S2684354_0),
    TRef.binary ψ.v23 ψ.v25 ψ.v26 mulf, TRef.unary ψ.v2 ψ.v27 (broadcastInDim S2684354 ![0] bcast_S1_S2684354_0),
    TRef.binary ψ.v26 ψ.v27 ψ.v28 addf, TRef.unary ψ.v2 ψ.v29 (broadcastInDim S2684354 ![0] bcast_S1_S2684354_0),
    TRef.binary ψ.v29 ψ.v28 ψ.v30 maximumf]

/-- The key made from the seed 42: its high and its low half, side by side; and the bounds 0 and 1 of the range. -/
def key : List (HloOp τ sig (Elt F)) :=
  [TRef.nullary (.of main_c : Word) (constantI S_ 32 42#32), TRef.nullary (.of main_c_0 : Word) (constantI S_ 32 32#32),
    TRef.binary (.of main_c : Word) (.of main_c_0 : Word) (.of main_v0 : Word) Host.shrui,
    TRef.unary (.of main_v0 : Word) (.of main_v1 : Word) id,
    TRef.unary (.of main_v1 : Word) (.of main_v2 : TRef sig ⟨S1, .i32⟩) (broadcastInDim S1 ![] bcast_S_S1),
    TRef.nullary (.of main_c_1 : Word) (constantI S_ 32 4294967295#32),
    TRef.binary (.of main_c : Word) (.of main_c_1 : Word) (.of main_v3 : Word) andi,
    TRef.unary (.of main_v3 : Word) (.of main_v4 : Word) id,
    TRef.unary (.of main_v4 : Word) (.of main_v5 : TRef sig ⟨S1, .i32⟩) (broadcastInDim S1 ![] bcast_S_S1),
    TRef.binary (.of main_v2 : TRef sig ⟨S1, .i32⟩) (.of main_v5 : TRef sig ⟨S1, .i32⟩)
      (.of main_v6 : TRef sig ⟨S2, .i32⟩) (fun a b => concatenate S2 0 [⟨S1, a⟩, ⟨S1, b⟩] concatenates_S1_S1_S2_d0),
    TRef.nullary (.of main_cst : TRef sig ⟨S_, .f32⟩) (constant S_ .f32 0x00000000#32),
    TRef.nullary (.of main_cst_2 : TRef sig ⟨S_, .f32⟩) (constant S_ .f32 0x3F800000#32)]

/-- One array of floats, an entry per edge. -/
abbrev Floats := TRef sig ⟨S2684354, .f32⟩

/-- The comparison with the drop rate, and the choice between zero and the value. -/
def choose : List (HloOp τ sig (Elt F)) :=
  [TRef.nullary (.of main_cst_3 : TRef sig ⟨S_, .f32⟩) (constant S_ .f32 0x3E4CCCCD#32),
    TRef.unary (.of main_cst_3 : TRef sig ⟨S_, .f32⟩) (.of main_v8 : Floats)
      (broadcastInDim S2684354 ![] bcast_S_S2684354),
    TRef.binary (.of main_v7 : Floats) (.of main_v8 : Floats) (.of main_v9 : Floats) addf,
    TRef.nullary (.of main_cst_4 : TRef sig ⟨S_, .f32⟩) (constant S_ .f32 0x3F800000#32),
    TRef.unary (.of main_cst_4 : TRef sig ⟨S_, .f32⟩) (.of main_v10 : Floats)
      (broadcastInDim S2684354 ![] bcast_S_S2684354),
    TRef.binary (.of main_v9 : Floats) (.of main_v10 : Floats) (.of main_v11 : TRef sig ⟨S2684354, .i1⟩) (cmpf .ogt),
    TRef.nullary (.of main_cst_5 : TRef sig ⟨S_, .f32⟩) (constant S_ .f32 0x00000000#32),
    TRef.unary (.of main_cst_5 : TRef sig ⟨S_, .f32⟩) (.of main_call1_v0 : Floats)
      (broadcastInDim S2684354 ![] bcast_S_S2684354),
    TRef.ternary (.of main_v11 : TRef sig ⟨S2684354, .i1⟩) (.of main_call1_v0 : Floats) (.of main_arg1 : Floats)
      (.of main_v12 : Floats) select]

/-- The generator as the reference calls it. -/
abbrev called : List (HloOp τ sig (Elt F)) :=
  generator main_call0.v5 main_call0.v7 main_call0.v14 main_call0.v13 main_call0_call0

/-- The counters as the reference makes them. -/
abbrev counted : List (HloOp τ sig (Elt F)) := counters (.of main_v6) (.of main_cst) (.of main_cst_2) main_call0

/-- The whole reference. -/
def program : List (HloOp τ sig (Elt F)) := key ++ (counted ++ (called ++ (toUnit main_call0 ++ choose)))

set_option maxRecDepth 65536 in
/-- The reference is that list. -/
theorem main_eq (c : Dev nD) : (main (F := F) c) = seq program := rfl

end Cert.RefProgram
-- ==== Proof.RefOrder.lean ====
/-
  Every operation of the reference writes the next buffer and reads earlier ones, so that where the reference ends all its
  equations hold.
-/
module

public import proofs.«01_k».proof.Proof.RefProgram

@[expose] public section

namespace Cert.RefProgram

open Idealize.ShloMosaic Idealize.SL.Sem Idealize.ShloMosaic.StableHlo Cert.ReferenceIdeal Cert.ReferenceIdeal.Gen
open Cert.RefSteps

variable {F : FTy → Type} [FloatOps F]

/-- A round whose buffers are numbered on from `q`. -/
theorem round_ordered {q : ℕ} {x₀ x₁ s : Words} {c : Word} {b l : Words} {c' : Word} {b' r o n : Words}
    {k k' : BitVec 32} (h₀ : num x₀.ref < q) (h₁ : num x₁.ref < q) (hs : num s.ref = q) (hc : num c.ref = q + 1)
    (hb : num b.ref = q + 2) (hl : num l.ref = q + 3) (hc' : num c'.ref = q + 4) (hb' : num b'.ref = q + 5)
    (hr : num r.ref = q + 6) (ho : num o.ref = q + 7) (hn : num n.ref = q + 8) :
    Ordered q (round (F := F) x₀ x₁ s c b l c' b' r o n k k') := by
  refine ⟨.binary _ _ _ _ ?_ ?_ ?_, .nullary _ _ ?_, .unary _ _ _ ?_ ?_, .binary _ _ _ _ ?_ ?_ ?_, .nullary _ _ ?_,
    .unary _ _ _ ?_ ?_, .binary _ _ _ _ ?_ ?_ ?_, .binary _ _ _ _ ?_ ?_ ?_, .binary _ _ _ _ ?_ ?_ ?_, trivial⟩ <;> omega

/-- An addition of key words whose buffers are numbered on from `q`. -/
theorem addKeys_ordered {q : ℕ} {x₀ x₁ : Words} {ka kb : Word} {ba y₀ bb t : Words} {c : Word} {bc y₁ : Words}
    {k : BitVec 32} (h₀ : num x₀.ref < q) (h₁ : num x₁.ref < q) (hka : num ka.ref < q) (hkb : num kb.ref < q)
    (hba : num ba.ref = q) (hy₀ : num y₀.ref = q + 1) (hbb : num bb.ref = q + 2) (ht : num t.ref = q + 3)
    (hc : num c.ref = q + 4) (hbc : num bc.ref = q + 5) (hy₁ : num y₁.ref = q + 6) :
    Ordered q (addKeys (F := F) x₀ x₁ ka kb ba y₀ bb t c bc y₁ k) := by
  refine ⟨.unary _ _ _ ?_ ?_, .binary _ _ _ _ ?_ ?_ ?_, .unary _ _ _ ?_ ?_, .binary _ _ _ _ ?_ ?_ ?_, .nullary _ _ ?_,
    .unary _ _ _ ?_ ?_, .binary _ _ _ _ ?_ ?_ ?_, trivial⟩ <;> omega

/-- Four rounds and an addition of keys, one after the other. -/
theorem group_ordered {q : ℕ} {a b c d e : List (HloOp τ sig (Elt F))} (ha : Ordered q a) (hb : Ordered (q + 9) b)
    (hc : Ordered (q + 18) c) (hd : Ordered (q + 27) d) (he : Ordered (q + 36) e) (la : a.length = 9 := by rfl)
    (lb : b.length = 9 := by rfl) (lc : c.length = 9 := by rfl) (ld : d.length = 9 := by rfl) :
    Ordered q (a ++ (b ++ (c ++ (d ++ e)))) := by
  refine ha.append ?_
  rw [la]
  refine hb.append ?_
  rw [lb]
  refine hc.append ?_
  rw [lc]
  refine hd.append ?_
  rw [ld]
  exact he

theorem group1_ordered : Ordered 38 (group1 (F := F) main_call0.v7 main_call0_call0) := by
  refine group_ordered (round_ordered ?_ ?_ ?_ ?_ ?_ ?_ ?_ ?_ ?_ ?_ ?_)
    (round_ordered ?_ ?_ ?_ ?_ ?_ ?_ ?_ ?_ ?_ ?_ ?_) (round_ordered ?_ ?_ ?_ ?_ ?_ ?_ ?_ ?_ ?_ ?_ ?_)
    (round_ordered ?_ ?_ ?_ ?_ ?_ ?_ ?_ ?_ ?_ ?_ ?_) (addKeys_ordered ?_ ?_ ?_ ?_ ?_ ?_ ?_ ?_ ?_ ?_ ?_) <;> decide

theorem group2_ordered : Ordered 81 (group2 (F := F) main_call0.v5 main_call0_call0) := by
  refine group_ordered (round_ordered ?_ ?_ ?_ ?_ ?_ ?_ ?_ ?_ ?_ ?_ ?_)
    (round_ordered ?_ ?_ ?_ ?_ ?_ ?_ ?_ ?_ ?_ ?_ ?_) (round_ordered ?_ ?_ ?_ ?_ ?_ ?_ ?_ ?_ ?_ ?_ ?_)
    (round_ordered ?_ ?_ ?_ ?_ ?_ ?_ ?_ ?_ ?_ ?_ ?_) (addKeys_ordered ?_ ?_ ?_ ?_ ?_ ?_ ?_ ?_ ?_ ?_ ?_) <;> decide

theorem group3_ordered : Ordered 124 (group3 (F := F) main_call0.v5 main_call0.v7 main_call0_call0) := by
  refine group_ordered (round_ordered ?_ ?_ ?_ ?_ ?_ ?_ ?_ ?_ ?_ ?_ ?_)
    (round_ordered ?_ ?_ ?_ ?_ ?_ ?_ ?_ ?_ ?_ ?_ ?_) (round_ordered ?_ ?_ ?_ ?_ ?_ ?_ ?_ ?_ ?_ ?_ ?_)
    (round_ordered ?_ ?_ ?_ ?_ ?_ ?_ ?_ ?_ ?_ ?_ ?_) (addKeys_ordered ?_ ?_ ?_ ?_ ?_ ?_ ?_ ?_ ?_ ?_ ?_) <;> decide

theorem group4_ordered : Ordered 167 (group4 (F := F) main_call0.v7 main_call0_call0) := by
  refine group_ordered (round_ordered ?_ ?_ ?_ ?_ ?_ ?_ ?_ ?_ ?_ ?_ ?_)
    (round_ordered ?_ ?_ ?_ ?_ ?_ ?_ ?_ ?_ ?_ ?_ ?_) (round_ordered ?_ ?_ ?_ ?_ ?_ ?_ ?_ ?_ ?_ ?_ ?_)
    (round_ordered ?_ ?_ ?_ ?_ ?_ ?_ ?_ ?_ ?_ ?_ ?_) (addKeys_ordered ?_ ?_ ?_ ?_ ?_ ?_ ?_ ?_ ?_ ?_ ?_) <;> decide

theorem group5_ordered : Ordered 210 (group5 (F := F) main_call0.v5 main_call0_call0) := by
  refine group_ordered (round_ordered ?_ ?_ ?_ ?_ ?_ ?_ ?_ ?_ ?_ ?_ ?_)
    (round_ordered ?_ ?_ ?_ ?_ ?_ ?_ ?_ ?_ ?_ ?_ ?_) (round_ordered ?_ ?_ ?_ ?_ ?_ ?_ ?_ ?_ ?_ ?_ ?_)
    (round_ordered ?_ ?_ ?_ ?_ ?_ ?_ ?_ ?_ ?_ ?_ ?_) (addKeys_ordered ?_ ?_ ?_ ?_ ?_ ?_ ?_ ?_ ?_ ?_ ?_) <;> decide

theorem start_ordered :
    Ordered 31 (start (F := F) main_call0.v5 main_call0.v7 main_call0.v14 main_call0.v13 main_call0_call0) := by
  refine ⟨.binary _ _ _ _ ?_ ?_ ?_, .nullary _ _ ?_, .binary _ _ _ _ ?_ ?_ ?_, .unary _ _ _ ?_ ?_,
    .binary _ _ _ _ ?_ ?_ ?_, .unary _ _ _ ?_ ?_, .binary _ _ _ _ ?_ ?_ ?_, trivial⟩ <;> decide

/-- The generator's buffers are numbered from 31 on. -/
theorem called_ordered : Ordered 31 (called (F := F)) :=
  start_ordered.append <| group1_ordered.append <| group2_ordered.append <| group3_ordered.append <|
    group4_ordered.append group5_ordered

theorem counted_ordered : Ordered 14 (counted (F := F)) := by
  refine ⟨.unary _ _ _ ?_ ?_, .unary _ _ _ ?_ ?_, .unary _ _ _ ?_ ?_, .unary _ _ _ ?_ ?_, .unary _ _ _ ?_ ?_,
    .reshape _ _ _ _ ?_ ?_, .unary _ _ _ ?_ ?_, .reshape _ _ _ _ ?_ ?_, .nullary _ _ ?_, .nullary _ _ ?_,
    .unary _ _ _ ?_ ?_, .binary _ _ _ _ ?_ ?_ ?_, .nullary _ _ ?_, .unary _ _ _ ?_ ?_, .binary _ _ _ _ ?_ ?_ ?_,
    .unary _ _ _ ?_ ?_, .unary _ _ _ ?_ ?_, trivial⟩ <;> decide

theorem toUnit_ordered : Ordered 253 (toUnit (F := F) main_call0) := by
  refine ⟨.binary _ _ _ _ ?_ ?_ ?_, .nullary _ _ ?_, .unary _ _ _ ?_ ?_, .binary _ _ _ _ ?_ ?_ ?_, .nullary _ _ ?_,
    .unary _ _ _ ?_ ?_, .binary _ _ _ _ ?_ ?_ ?_, .unary _ _ _ ?_ ?_, .nullary _ _ ?_, .unary _ _ _ ?_ ?_,
    .binary _ _ _ _ ?_ ?_ ?_, .binary _ _ _ _ ?_ ?_ ?_, .unary _ _ _ ?_ ?_, .binary _ _ _ _ ?_ ?_ ?_,
    .unary _ _ _ ?_ ?_, .binary _ _ _ _ ?_ ?_ ?_, .unary _ _ _ ?_ ?_, .binary _ _ _ _ ?_ ?_ ?_, trivial⟩ <;> decide

theorem key_ordered : Ordered 2 (key (F := F)) := by
  refine ⟨.nullary _ _ ?_, .nullary _ _ ?_, .binary _ _ _ _ ?_ ?_ ?_, .unary _ _ _ ?_ ?_, .unary _ _ _ ?_ ?_,
    .nullary _ _ ?_, .binary _ _ _ _ ?_ ?_ ?_, .unary _ _ _ ?_ ?_, .unary _ _ _ ?_ ?_, .binary _ _ _ _ ?_ ?_ ?_,
    .nullary _ _ ?_, .nullary _ _ ?_, trivial⟩ <;> decide

theorem choose_ordered : Ordered 271 (choose (F := F)) := by
  refine ⟨.nullary _ _ ?_, .unary _ _ _ ?_ ?_, .binary _ _ _ _ ?_ ?_ ?_, .nullary _ _ ?_, .unary _ _ _ ?_ ?_,
    .binary _ _ _ _ ?_ ?_ ?_, .nullary _ _ ?_, .unary _ _ _ ?_ ?_, .ternary _ _ _ _ _ ?_ ?_ ?_ ?_, trivial⟩ <;> decide

/-- Operation number `k` of the reference writes buffer number 2 + k; the two arguments are buffers 0 and 1. -/
theorem program_ordered : Ordered 2 (program (F := F)) :=
  key_ordered.append <| counted_ordered.append <| called_ordered.append <| toUnit_ordered.append choose_ordered

end Cert.RefProgram
-- ==== Proof.RefValue.lean ====
/-
  What the reference's buffers hold where the program ends, entry by entry: the generator's words for counter (0, i) at
  key (0, 42), the number in [0, 1) they make, and the result.
-/
module

public import proofs.«01_k».proof.Proof.RefOrder
public import proofs.«01_k».proof.Proof.Drop
public import Idealize.ShloMosaic.Lib.Pipeline.Value

@[expose] public section

noncomputable section

namespace Cert.RefProgram

open Idealize.ShloMosaic Idealize.SL.Sem Idealize.ShloMosaic.StableHlo Cert.ReferenceIdeal Cert.ReferenceIdeal.Gen
open Cert.RefSteps Cert.Words Cert.Drop

variable {W : Valuation τ sig (Elt Ideal)}

theorem allFixed_append (l l' : List (HloOp τ sig (Elt Ideal))) :
    AllFixed W (l ++ l') ↔ AllFixed W l ∧ AllFixed W l' := List.forall_mem_append

theorem allFixed_cons (op : HloOp τ sig (Elt Ideal)) (l : List (HloOp τ sig (Elt Ideal))) :
    AllFixed W (op :: l) ↔ Fixed W op ∧ AllFixed W l := List.forall_mem_cons

/-- Two buffers' words at one entry. -/
def pr (W : Valuation τ sig (Elt Ideal)) (x y : Words) (i : S2684354.Idx) : Pair := (rd W x i, rd W y i)

/-- A constant word, spread over the entries. -/
theorem spread_const {c : Word} {b : Words} {k : BitVec 32} (h : Fixed W (TRef.nullary c (constantI S_ 32 k)))
    (h' : Fixed W (TRef.unary c b spread)) (i : S2684354.Idx) : rd W b i = k := by
  rw [eq_unary h', eq_nullary h]
  rfl

/-- A round is the generator's round on each entry. -/
theorem round_eq {x₀ x₁ s : Words} {c : Word} {b l : Words} {c' : Word} {b' r o n : Words} {k k' : BitVec 32}
    (h : AllFixed W (round x₀ x₁ s c b l c' b' r o n k k')) (hk : k.toNat < 32) (hk' : k'.toNat < 32)
    (i : S2684354.Idx) : pr W s n i = mix k k' (pr W x₀ x₁ i) := by
  simp only [round, allFixed_cons] at h
  obtain ⟨h₁, h₂, h₃, h₄, h₅, h₆, h₇, h₈, h₉, _⟩ := h
  have es : rd W s i = (rd W x₀ i + rd W x₁ i : BitVec 32) := congrFun (eq_binary h₁) i
  have el : rd W l i = (rd W x₁ i : BitVec 32) <<< k := by
    refine (congrFun (eq_binary h₄) i).trans ?_
    show IntOp.shli .host (rd W x₁ i) (rd W b i) = _
    rw [spread_const h₂ h₃]
    exact shli_lt _ _ _ hk
  have er : rd W r i = (rd W x₁ i : BitVec 32) >>> k' := by
    refine (congrFun (eq_binary h₇) i).trans ?_
    show IntOp.shrui .host (rd W x₁ i) (rd W b' i) = _
    rw [spread_const h₅ h₆]
    exact shrui_lt _ _ _ hk'
  have eo : rd W o i = (rd W l i ||| rd W r i : BitVec 32) := congrFun (eq_binary h₈) i
  have en : rd W n i = (rd W s i ^^^ rd W o i : BitVec 32) := congrFun (eq_binary h₉) i
  refine Prod.ext es ?_
  show rd W n i = _
  rw [en, eo, el, er, es]
  rfl

/-- Key words added to both words, and a number to the second. -/
theorem addKeys_eq {x₀ x₁ : Words} {ka kb : Word} {ba y₀ bb t : Words} {c : Word} {bc y₁ : Words} {k a a' : BitVec 32}
    (h : AllFixed W (addKeys x₀ x₁ ka kb ba y₀ bb t c bc y₁ k)) (ha : ∀ z, rd W ka z = a) (hb : ∀ z, rd W kb z = a')
    (i : S2684354.Idx) : pr W y₀ y₁ i = plus (pr W x₀ x₁ i) a (a' + k) := by
  simp only [addKeys, allFixed_cons] at h
  obtain ⟨h₁, h₂, h₃, h₄, h₅, h₆, h₇, _⟩ := h
  have e₁ : rd W ba i = a := (congrFun (eq_unary h₁) i).trans (ha _)
  have e₃ : rd W bb i = a' := (congrFun (eq_unary h₃) i).trans (hb _)
  have e₂ : rd W y₀ i = (rd W x₀ i + rd W ba i : BitVec 32) := congrFun (eq_binary h₂) i
  have e₄ : rd W t i = (rd W x₁ i + rd W bb i : BitVec 32) := congrFun (eq_binary h₄) i
  have e₇ : rd W y₁ i = (rd W t i + rd W bc i : BitVec 32) := congrFun (eq_binary h₇) i
  rw [e₁] at e₂
  rw [e₄, e₃, spread_const h₅ h₆, BitVec.add_assoc] at e₇
  exact Prod.ext e₂ e₇

variable {arg0 arg1 : Word} {arg2 arg3 : Words} {φ : fn_threefry2x32.Bufs} {k0 k1 : BitVec 32}

/-- The third key word. -/
theorem start_key (h : AllFixed W (start arg0 arg1 arg2 arg3 φ)) (h0 : ∀ z, rd W arg0 z = k0)
    (h1 : ∀ z, rd W arg1 z = k1) (z : S_.Idx) : rd W φ.v1 z = key2 k0 k1 := by
  simp only [start, allFixed_cons] at h
  obtain ⟨h₁, h₂, h₃, _⟩ := h
  have e₁ : rd W φ.v0 z = (rd W arg0 z ^^^ rd W arg1 z : BitVec 32) := congrFun (eq_binary h₁) z
  have e₂ : rd W φ.c z = 466688986#32 := congrFun (eq_nullary h₂) z
  have e₃ : rd W φ.v1 z = (rd W φ.v0 z ^^^ rd W φ.c z : BitVec 32) := congrFun (eq_binary h₃) z
  rw [e₃, e₁, e₂, h0, h1]
  rfl

/-- The counter with both key words added. -/
theorem start_eq (h : AllFixed W (start arg0 arg1 arg2 arg3 φ)) (h0 : ∀ z, rd W arg0 z = k0)
    (h1 : ∀ z, rd W arg1 z = k1) (i : S2684354.Idx) : pr W φ.v3 φ.v5 i = plus (pr W arg2 arg3 i) k0 k1 := by
  simp only [start, allFixed_cons] at h
  obtain ⟨_, _, _, h₄, h₅, h₆, h₇, _⟩ := h
  have e₄ : rd W φ.v2 i = k0 := (congrFun (eq_unary h₄) i).trans (h0 _)
  have e₆ : rd W φ.v4 i = k1 := (congrFun (eq_unary h₆) i).trans (h1 _)
  have e₅ : rd W φ.v3 i = (rd W arg2 i + rd W φ.v2 i : BitVec 32) := congrFun (eq_binary h₅) i
  have e₇ : rd W φ.v5 i = (rd W arg3 i + rd W φ.v4 i : BitVec 32) := congrFun (eq_binary h₇) i
  rw [e₄] at e₅
  rw [e₆] at e₇
  exact Prod.ext e₅ e₇

/-- Four rounds in a row, at the shifts of the odd groups. -/
theorem odd_eq {x₀ x₁ a a' b b' c c' d d' : Words} {i : S2684354.Idx}
    (h₁ : pr W a a' i = mix 13#32 19#32 (pr W x₀ x₁ i)) (h₂ : pr W b b' i = mix 15#32 17#32 (pr W a a' i))
    (h₃ : pr W c c' i = mix 26#32 6#32 (pr W b b' i)) (h₄ : pr W d d' i = mix 6#32 26#32 (pr W c c' i)) :
    pr W d d' i = mixOdd (pr W x₀ x₁ i) := by
  rw [h₄, h₃, h₂, h₁]
  rfl

/-- Four rounds in a row, at the shifts of the even groups. -/
theorem even_eq {x₀ x₁ a a' b b' c c' d d' : Words} {i : S2684354.Idx}
    (h₁ : pr W a a' i = mix 17#32 15#32 (pr W x₀ x₁ i)) (h₂ : pr W b b' i = mix 29#32 3#32 (pr W a a' i))
    (h₃ : pr W c c' i = mix 16#32 16#32 (pr W b b' i)) (h₄ : pr W d d' i = mix 24#32 8#32 (pr W c c' i)) :
    pr W d d' i = mixEven (pr W x₀ x₁ i) := by
  rw [h₄, h₃, h₂, h₁]
  rfl

theorem group1_eq (h : AllFixed W (group1 arg1 φ)) (h1 : ∀ z, rd W arg1 z = k1)
    (h2 : ∀ z, rd W φ.v1 z = key2 k0 k1) (i : S2684354.Idx) :
    pr W φ.v35 φ.v39 i = plus (mixOdd (pr W φ.v3 φ.v5 i)) k1 (key2 k0 k1 + 1#32) := by
  simp only [group1, allFixed_append, and_assoc] at h
  obtain ⟨a, b, c, d, e⟩ := h
  rw [addKeys_eq e h1 h2, odd_eq (round_eq a (by decide) (by decide) i) (round_eq b (by decide) (by decide) i)
    (round_eq c (by decide) (by decide) i) (round_eq d (by decide) (by decide) i)]

theorem group2_eq (h : AllFixed W (group2 arg0 φ)) (h0 : ∀ z, rd W arg0 z = k0)
    (h2 : ∀ z, rd W φ.v1 z = key2 k0 k1) (i : S2684354.Idx) :
    pr W φ.v69 φ.v73 i = plus (mixEven (pr W φ.v35 φ.v39 i)) (key2 k0 k1) (k0 + 2#32) := by
  simp only [group2, allFixed_append, and_assoc] at h
  obtain ⟨a, b, c, d, e⟩ := h
  rw [addKeys_eq e h2 h0, even_eq (round_eq a (by decide) (by decide) i) (round_eq b (by decide) (by decide) i)
    (round_eq c (by decide) (by decide) i) (round_eq d (by decide) (by decide) i)]

theorem group3_eq (h : AllFixed W (group3 arg0 arg1 φ)) (h0 : ∀ z, rd W arg0 z = k0)
    (h1 : ∀ z, rd W arg1 z = k1) (i : S2684354.Idx) :
    pr W φ.v103 φ.v107 i = plus (mixOdd (pr W φ.v69 φ.v73 i)) k0 (k1 + 3#32) := by
  simp only [group3, allFixed_append, and_assoc] at h
  obtain ⟨a, b, c, d, e⟩ := h
  rw [addKeys_eq e h0 h1, odd_eq (round_eq a (by decide) (by decide) i) (round_eq b (by decide) (by decide) i)
    (round_eq c (by decide) (by decide) i) (round_eq d (by decide) (by decide) i)]

theorem group4_eq (h : AllFixed W (group4 arg1 φ)) (h1 : ∀ z, rd W arg1 z = k1)
    (h2 : ∀ z, rd W φ.v1 z = key2 k0 k1) (i : S2684354.Idx) :
    pr W φ.v137 φ.v141 i = plus (mixEven (pr W φ.v103 φ.v107 i)) k1 (key2 k0 k1 + 4#32) := by
  simp only [group4, allFixed_append, and_assoc] at h
  obtain ⟨a, b, c, d, e⟩ := h
  rw [addKeys_eq e h1 h2, even_eq (round_eq a (by decide) (by decide) i) (round_eq b (by decide) (by decide) i)
    (round_eq c (by decide) (by decide) i) (round_eq d (by decide) (by decide) i)]

theorem group5_eq (h : AllFixed W (group5 arg0 φ)) (h0 : ∀ z, rd W arg0 z = k0)
    (h2 : ∀ z, rd W φ.v1 z = key2 k0 k1) (i : S2684354.Idx) :
    pr W φ.v171 φ.v175 i = plus (mixOdd (pr W φ.v137 φ.v141 i)) (key2 k0 k1) (k0 + 5#32) := by
  simp only [group5, allFixed_append, and_assoc] at h
  obtain ⟨a, b, c, d, e⟩ := h
  rw [addKeys_eq e h2 h0, odd_eq (round_eq a (by decide) (by decide) i) (round_eq b (by decide) (by decide) i)
    (round_eq c (by decide) (by decide) i) (round_eq d (by decide) (by decide) i)]

/-- The generator's two results, on each entry. -/
theorem generator_words (h : AllFixed W (generator arg0 arg1 arg2 arg3 φ)) (h0 : ∀ z, rd W arg0 z = k0)
    (h1 : ∀ z, rd W arg1 z = k1) (i : S2684354.Idx) :
    pr W φ.v171 φ.v175 i = threefry k0 k1 (pr W arg2 arg3 i) := by
  simp only [generator, allFixed_append] at h
  obtain ⟨s, g₁, g₂, g₃, g₄, g₅⟩ := h
  have h2 := start_key s h0 h1
  rw [group5_eq g₅ h0 h2, group4_eq g₄ h1 h2, group3_eq g₃ h0 h1, group2_eq g₂ h0 h2, group1_eq g₁ h1 h2,
    start_eq s h0 h1]
  rfl

/-! ## The key and the counters -/

/-- The one entry of an array of one. -/
def only : S1.Idx := fun a => ⟨0, by revert a; decide⟩

/-- An entry of an array of two. -/
def entry (b : Fin 2) : S2.Idx := fun a => ⟨b.val, by revert a b; decide⟩

/-- The key: zero in front of 42. -/
theorem key_eq (h : AllFixed W key) :
    rd W (.of main_v6 : TRef sig ⟨S2, .i32⟩) = fun j => if (j 0).val = 0 then 0#32 else 42#32 := by
  simp only [key, allFixed_cons] at h
  obtain ⟨h₁, h₂, h₃, h₄, h₅, h₆, h₇, h₈, h₉, h₁₀, _⟩ := h
  have hi : ∀ j, rd W (.of main_v2 : TRef sig ⟨S1, .i32⟩) j = 0#32 := fun j => by
    rw [eq_unary h₅, eq_unary h₄, eq_binary h₃, eq_nullary h₁, eq_nullary h₂]
    exact (show IntOp.shrui .host 42#32 32#32 = 0#32 from if_neg (by decide))
  have lo : ∀ j, rd W (.of main_v5 : TRef sig ⟨S1, .i32⟩) j = 42#32 := fun j => by
    rw [eq_unary h₉, eq_unary h₈, eq_binary h₇, eq_nullary h₁, eq_nullary h₆]
    exact (show 42#32 &&& 4294967295#32 = 42#32 by decide)
  rw [eq_binary h₁₀]
  funext j
  have hj : (j 0).val < 2 := (j 0).isLt
  by_cases h0 : (j 0).val = 0
  · rw [if_pos h0]
    refine (concatenate_pair_apply_left (0 : Fin S2.rank) _ _ concatenates_S1_S1_S2_d0 j rfl only ?_).trans (hi _)
    intro b
    obtain rfl : b = 0 := Subsingleton.elim (α := Fin 1) _ _
    exact h0.symm
  · rw [if_neg h0]
    refine (concatenate_pair_apply_right (0 : Fin S2.rank) _ _ concatenates_S1_S1_S2_d0 j rfl rfl only ?_ ?_).trans
      (lo _)
    · intro b hb
      exact absurd (Subsingleton.elim (α := Fin 1) _ _) hb
    · show 0 + 1 = (j 0).val
      omega

/-- A word read off an array of one entry. -/
theorem one_entry (x : IVec S1 32) (z : S_.Idx) : shapeCast S_ x shapeCasts_S1_S_ z = x only :=
  shapeCast_apply x shapeCasts_S1_S_ z only (by decide +revert)

variable {k : TRef sig ⟨S2, .i32⟩} {lo hi : TRef sig ⟨S_, .f32⟩} {ψ : fn_uniform.Bufs}

/-- The generator's first key word. -/
theorem counters_key0 (h : AllFixed W (counters k lo hi ψ)) (z : S_.Idx) : rd W ψ.v5 z = rd W k (entry 0) := by
  simp only [counters, allFixed_cons] at h
  obtain ⟨_, _, _, _, h₅, h₆, _⟩ := h
  refine (congrFun (eq_reshape h₆) z).trans ((one_entry _ z).trans ?_)
  rw [eq_unary h₅]
  refine extractStridedSlice_apply _ _ _ _ _ fun a => ?_
  obtain rfl : a = 0 := Subsingleton.elim (α := Fin 1) _ _
  rfl

/-- The generator's second key word. -/
theorem counters_key1 (h : AllFixed W (counters k lo hi ψ)) (z : S_.Idx) : rd W ψ.v7 z = rd W k (entry 1) := by
  simp only [counters, allFixed_cons] at h
  obtain ⟨_, _, _, _, _, _, h₇, h₈, _⟩ := h
  refine (congrFun (eq_reshape h₈) z).trans ((one_entry _ z).trans ?_)
  rw [eq_unary h₇]
  refine extractStridedSlice_apply _ _ _ _ _ fun a => ?_
  obtain rfl : a = 0 := Subsingleton.elim (α := Fin 1) _ _
  rfl

/-- The counter: zero in the high word, the entry's number in the low one. -/
theorem counters_eq (h : AllFixed W (counters k lo hi ψ)) (i : S2684354.Idx) :
    pr W ψ.v14 ψ.v13 i = (0#32, BitVec.ofNat 32 (i 0).val) := by
  simp only [counters, allFixed_cons] at h
  obtain ⟨_, _, _, _, _, _, _, _, h₉, h₁₀, h₁₁, h₁₂, h₁₃, h₁₄, h₁₅, h₁₆, h₁₇, _⟩ := h
  have e : rd W ψ.v10 i = BitVec.ofNat 64 (i 0).val := by
    rw [eq_binary h₁₂, eq_unary h₁₁, eq_nullary h₁₀, eq_nullary h₉]
    exact BitVec.one_mul _
  have e' : rd W ψ.v12 i = BitVec.ofNat 64 (i 0).val >>> 32#64 := by
    rw [eq_binary h₁₅, eq_unary h₁₄, eq_nullary h₁₃]
    have hs : ∀ x : BitVec 64, IntOp.shrui .host x 32#64 = x >>> 32#64 := fun x => if_pos (by decide)
    exact (hs _).trans (congrArg (· >>> 32#64) e)
  have hi : (i 0).val < 2684354 := (i 0).isLt
  refine Prod.ext ?_ ?_
  · refine (congrFun (eq_unary h₁₇) i).trans ((congrArg (BitVec.setWidth 32) e').trans ?_)
    apply BitVec.eq_of_toNat_eq
    simp [Nat.shiftRight_eq_div_pow]
    omega
  · refine (congrFun (eq_unary h₁₆) i).trans ((congrArg (BitVec.setWidth 32) e).trans ?_)
    apply BitVec.eq_of_toNat_eq
    simp
    try omega

/-- The bounds of the range. -/
theorem counters_bounds (h : AllFixed W (counters k lo hi ψ)) {a b : EReal} (ha : ∀ z, rd W lo z = a)
    (hb : ∀ z, rd W hi z = b) : (∀ j, rd W ψ.v2 j = a) ∧ ∀ j, rd W ψ.v3 j = b := by
  simp only [counters, allFixed_cons] at h
  obtain ⟨h₁, h₂, h₃, h₄, _⟩ := h
  constructor
  · intro j
    rw [eq_unary h₃, eq_unary h₁]
    exact ha _
  · intro j
    rw [eq_unary h₄, eq_unary h₂]
    exact hb _

/-! ## The number and the choice -/

/-- The number in [0, 1), on each entry. -/
theorem toUnit_eq (h : AllFixed W (toUnit ψ)) (h2 : ∀ j, rd W ψ.v2 j = Ideal.ofBits .f32 0x00000000#32)
    (h3 : ∀ j, rd W ψ.v3 j = Ideal.ofBits .f32 0x3F800000#32) {n : BitVec 32} {i : S2684354.Idx}
    (hn : pr W ψ.call0.v171 ψ.call0.v175 i = threefry 0#32 42#32 (0#32, n)) : rd W ψ.v30 i = unitOf (word n) := by
  simp only [toUnit, allFixed_cons] at h
  obtain ⟨h₁, h₂, h₃, h₄, h₅, h₆, h₇, h₈, h₉, h₁₀, h₁₁, h₁₂, h₁₃, h₁₄, h₁₅, h₁₆, h₁₇, h₁₈, _⟩ := h
  have e₁ : rd W ψ.v16 i = word n := by
    refine (congrFun (eq_binary h₁) i).trans ?_
    show (pr W ψ.call0.v171 ψ.call0.v175 i).1 ^^^ (pr W ψ.call0.v171 ψ.call0.v175 i).2 = _
    rw [hn]
    rfl
  have e₄ : rd W ψ.v18 i = word n >>> 9#32 := by
    refine (congrFun (eq_binary h₄) i).trans ?_
    show IntOp.shrui .host (rd W ψ.v16 i) (rd W ψ.v17 i) = _
    rw [spread_const h₂ h₃, e₁]
    exact shrui_lt _ _ _ (by decide)
  have e₇ : rd W ψ.v20 i = pattern (word n) := by
    refine (congrFun (eq_binary h₇) i).trans ?_
    show (rd W ψ.v18 i ||| rd W ψ.v19 i : BitVec 32) = _
    rw [spread_const h₅ h₆, e₄]
    rfl
  have e₈ : rd W ψ.v21 i = Ideal.ofBits .f32 (pattern (word n)) := by
    refine (congrFun (eq_unary h₈) i).trans ?_
    exact congrArg (Ideal.ofBits .f32) e₇
  have e₁₀ : rd W ψ.v22 i = Ideal.ofBits .f32 0x3F800000#32 := by
    rw [eq_unary h₁₀, eq_nullary h₉]
    rfl
  have e₁₁ : rd W ψ.v23 i = unitOf (word n) := by
    refine (congrFun (eq_binary h₁₁) i).trans ?_
    show (rd W ψ.v21 i - rd W ψ.v22 i : EReal) = _
    rw [e₈, e₁₀]
    rfl
  have e₁₃ : rd W ψ.v25 i = (Ideal.ofBits .f32 0x3F800000#32 - Ideal.ofBits .f32 0x00000000#32 : EReal) := by
    rw [eq_unary h₁₃, eq_binary h₁₂]
    exact congrArg₂ (fun a b : EReal => a - b) (h3 _) (h2 _)
  have e₁₅ : rd W ψ.v27 i = Ideal.ofBits .f32 0x00000000#32 := (congrFun (eq_unary h₁₅) i).trans (h2 _)
  have e₁₇ : rd W ψ.v29 i = Ideal.ofBits .f32 0x00000000#32 := (congrFun (eq_unary h₁₇) i).trans (h2 _)
  have e₁₆ : rd W ψ.v28 i = (rd W ψ.v23 i * rd W ψ.v25 i + rd W ψ.v27 i : EReal) := by
    rw [eq_binary h₁₆, eq_binary h₁₄]
    rfl
  refine (congrFun (eq_binary h₁₈) i).trans ?_
  show max (rd W ψ.v29 i : EReal) (rd W ψ.v28 i) = _
  rw [e₁₆, e₁₇, e₁₅, e₁₃, e₁₁]
  exact scaled _

/-- The result: zero where the entry is dropped, the value elsewhere. -/
theorem choose_eq (h : AllFixed W choose) {n : BitVec 32} {i : S2684354.Idx}
    (hn : rd W (.of main_v7 : Floats) i = unitOf (word n)) :
    rd W (.of main_v12 : Floats) i
      = if dropped n = 1#1 then Ideal.ofBits .f32 0x00000000#32 else rd W (.of main_arg1 : Floats) i := by
  simp only [choose, allFixed_cons] at h
  obtain ⟨h₁, h₂, h₃, h₄, h₅, h₆, h₇, h₈, h₉, _⟩ := h
  have e₂ : rd W (.of main_v8 : Floats) i = Ideal.ofBits .f32 0x3E4CCCCD#32 := by
    rw [eq_unary h₂, eq_nullary h₁]
    rfl
  have e₃ : rd W (.of main_v9 : Floats) i = (unitOf (word n) + Ideal.ofBits .f32 0x3E4CCCCD#32 : EReal) :=
    (congrFun (eq_binary h₃) i).trans (congrArg₂ (fun a b : EReal => a + b) hn e₂)
  have e₅ : rd W (.of main_v10 : Floats) i = Ideal.ofBits .f32 0x3F800000#32 := by
    rw [eq_unary h₅, eq_nullary h₄]
    rfl
  have e₆ : rd W (.of main_v11 : TRef sig ⟨S2684354, .i1⟩) i = dropped n :=
    (congrFun (eq_binary h₆) i).trans (congrArg₂ (Ideal.cmp .ogt) e₃ e₅)
  have e₈ : rd W (.of main_call1_v0 : Floats) i = Ideal.ofBits .f32 0x00000000#32 := by
    rw [eq_unary h₈, eq_nullary h₇]
    rfl
  refine (congrFun (eq_ternary h₉) i).trans ?_
  show (if rd W (.of main_v11 : TRef sig ⟨S2684354, .i1⟩) i = 1#1 then rd W (.of main_call1_v0 : Floats) i
    else rd W (.of main_arg1 : Floats) i) = _
  rw [e₆, e₈]

/-- Where the reference ends, its result is zero on the dropped entries and the value on the others. -/
theorem program_value (V : Valuation τ sig (Elt Ideal)) (i : S2684354.Idx) :
    rd (after program V) (.of main_v12 : Floats) i
      = if dropped (BitVec.ofNat 32 (i 0).val) = 1#1 then Ideal.ofBits .f32 0x00000000#32
        else rd V (.of main_arg1 : Floats) i := by
  have h := program_ordered.allFixed V
  have harg : rd (after program V) (.of main_arg1 : Floats) = rd V (.of main_arg1 : Floats) :=
    congrArg (TRef.ofBuf (.of main_arg1 : Floats)) (program_ordered.keeps V main_arg1 (by decide))
  rw [← harg]
  generalize after program V = W at h ⊢
  simp only [program, allFixed_append] at h
  obtain ⟨hk, hc, hg, hu, ho⟩ := h
  have h0 : ∀ z, rd W main_call0.v5 z = 0#32 := fun z => (counters_key0 hc z).trans (congrFun (key_eq hk) _)
  have h1 : ∀ z, rd W main_call0.v7 z = 42#32 := fun z => (counters_key1 hc z).trans (congrFun (key_eq hk) _)
  have hw := (generator_words hg h0 h1 i).trans (congrArg _ (counters_eq hc i))
  simp only [key, allFixed_cons] at hk
  obtain ⟨_, _, _, _, _, _, _, _, _, _, l, u, _⟩ := hk
  have hb := counters_bounds hc (a := Ideal.ofBits .f32 0x00000000#32) (b := Ideal.ofBits .f32 0x3F800000#32)
    (fun z => congrFun (eq_nullary l) z) (fun z => congrFun (eq_nullary u) z)
  exact choose_eq ho (toUnit_eq hu hb.1 hb.2 hw)

end Cert.RefProgram
-- ==== Proof.RefRun.lean ====
/-
  The reference's run: every buffer ends at what the list of operations computes, the arguments unchanged.
-/
module

public import proofs.«01_k».proof.Proof.RefValue
public import Idealize.ShloMosaic.Lib.StableHlo.Run
public import Idealize.ShloMosaic.Lib.Quiescent

@[expose] public section

noncomputable section

namespace Cert.RefProgram

open Idealize.ShloMosaic Idealize.SL.Sem Idealize.ShloMosaic.StableHlo Cert.ReferenceIdeal Cert.ReferenceIdeal.Gen
open Cert.RefSteps

variable (m : (ℓ : Loc nD τ sig) → Buf (Elt Ideal) ℓ) (ρ : Dev nD → PrngReg)

/-- The buffers of core `c` where the program ends. -/
abbrev ends (c : Dev nD) : Valuation τ sig (Elt Ideal) := after program (launchContents m c)

/-- Every execution ends with those contents. -/
theorem run : θ_run (defs (F := Ideal)) (onTc (τ := τ) (main (F := Ideal))) ⟨m, fun _ => 0, ρ⟩ fun r =>
    ∀ (c : Dev nD) (b : Ref sig .tc), r.2.mem ((c.tc : Thread nD τ).loc b) = ends m c (Proc.devRef .tc b) :=
  run_seq (by decide) (by decide) defs main (fun _ => program) main_eq
    (fun _ => List.forall_iff_forall_mem.2 program_ordered.bufs_sub) m ρ (fun _ => program_ordered.fresh_eq)

/-- The first argument ends as it was launched. -/
theorem ends_arg0 (c : Dev nD) : ends m c (Proc.devRef .tc main_arg0) = m ((c.tc : Thread nD τ).loc main_arg0) :=
  program_ordered.keeps _ main_arg0 (by decide)

/-- The second argument ends as it was launched. -/
theorem ends_arg1 (c : Dev nD) : ends m c (Proc.devRef .tc main_arg1) = m ((c.tc : Thread nD τ).loc main_arg1) :=
  program_ordered.keeps _ main_arg1 (by decide)

/-- The result: zero on the dropped entries, the second argument's entry on the others. -/
theorem ends_result (c : Dev nD) : ends m c (Proc.devRef .tc main_v12)
    = (fun i : S2684354.Idx => if Drop.dropped (BitVec.ofNat 32 (i 0).val) = 1#1 then Ideal.ofBits .f32 0x00000000#32
        else m ((c.tc : Thread nD τ).loc main_arg1) i) :=
  funext fun i => program_value (launchContents m c) i

/-- No semaphore counts anything where the program ends. -/
theorem quiet (r : PUnit × MemSt nD τ sig (Elt Ideal)) : r.2.sem = fun _ => 0 :=
  sem_eq_zero_of_no_sems (by decide) r.2

end Cert.RefProgram
-- ==== Proof.lean ====
/-
  The proof of `Cert.Claim`: the kernel's program runs at `Bits` and at `Ideal`, the reference runs at `Ideal`, each
  leaves its arguments and every semaphore as found, and at `Ideal` the kernel's and the reference's results are equal.
-/
module

public import proofs.«01_k».proof.Defs
public import proofs.«01_k».proof.Proof.Gen.Kernel
public import proofs.«01_k».proof.Proof.ArrayValue
public import proofs.«01_k».proof.Proof.RefRun
public import Idealize.ShloMosaic.Adequacy
public import Idealize.ShloMosaic.Init

@[expose] public section

noncomputable section

namespace Cert.Proof

open Idealize.ShloMosaic Idealize.SL.Sem

theorem bodies_eq : @Cert.Kernel.defs₀ Bits _ _ = @Cert.KernelIdeal.defs₀ Bits _ _ := by
  refine congrArg Defs.onTc (funext fun l => funext fun x => ?_)
  match l, x with
  | 0, (t, s) => rfl

/-- The two printings of the kernel are one program, so what is proved of the second at every float type is proved of the
    first at `Bits`. -/
theorem defs_eq : @Cert.Kernel.defs Bits _ _ = @Cert.KernelIdeal.defs Bits _ _ :=
  congrArg (Pipeline.defs (Cert.KernelIdeal.pcfgs (F := Bits))) bodies_eq

theorem quiescent_Kernel : Cert.quiescent_Kernel := fun m ρ _ => by
  rw [defs_eq]
  exact Cert.DropIdeal.frame (F := Bits) m ρ

theorem quiescent_KernelIdeal : Cert.quiescent_KernelIdeal := fun m ρ _ => Cert.DropIdeal.frame m ρ

theorem quiescent_ReferenceIdeal : Cert.quiescent_ReferenceIdeal := fun m ρ _ =>
  (θ_run Cert.ReferenceIdeal.defs _ _).mono
    (fun r h => ⟨fun c => ⟨(h c _).trans (Cert.RefProgram.ends_arg0 m c), (h c _).trans (Cert.RefProgram.ends_arg1 m c)⟩,
      Cert.RefProgram.quiet r⟩)
    (Cert.RefProgram.run m ρ)

/-- Both results are zero on the dropped entries and the second argument's entry on the others; the first argument passes
    through. -/
theorem algebraic : Cert.algebraic_KernelIdeal_ReferenceIdeal := by
  intro m ρ m' ρ' _ hagree
  refine ⟨fun c => m ((c.tc : Thread _ Cert.KernelIdeal.τ).loc Cert.KernelIdeal.main_arg0),
    fun c => Cert.DropIdeal.result m c, ?_, ?_⟩
  · refine (θ_run Cert.KernelIdeal.defs _ _).mono (fun _ h c => ?_) (Cert.DropIdeal.run_main m ρ)
    have ha := Cert.DropIdeal.Final.args m h c
    exact ⟨ha.1, Cert.DropIdeal.Final.result m h c, ha⟩
  · refine (θ_run Cert.ReferenceIdeal.defs _ _).mono (fun _ h c => ?_) (Cert.RefProgram.run m' ρ')
    have h0 := (h c _).trans (Cert.RefProgram.ends_arg0 m' c)
    have h1 := (h c _).trans (Cert.RefProgram.ends_arg1 m' c)
    refine ⟨h0.trans (hagree c).1, ((h c _).trans (Cert.RefProgram.ends_result m' c)).trans ?_, h0, h1⟩
    rw [(hagree c).2]
    rfl

theorem claim : Cert.Claim :=
  ⟨Cert.Kernel.Gen.facts, Cert.KernelIdeal.Gen.facts, Cert.ReferenceIdeal.Gen.facts, quiescent_Kernel,
    quiescent_KernelIdeal, quiescent_ReferenceIdeal, trivial, algebraic⟩

end Cert.Proof
